-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite_KernelIdeal [hPre_x_finite_KernelIdeal : Cert.Pre_x_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite_ReferenceIdeal [hPre_x_finite_ReferenceIdeal : Cert.Pre_x_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_x_finite_KernelIdeal [hKernelIdeal : Cert.KernelIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_x_finite_ReferenceIdeal [hReferenceIdeal : Cert.ReferenceIdeal.Facts] [hPre_x_finite_ReferenceIdeal : Cert.Pre_x_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_x_finite_KernelIdeal [hKernelIdeal : Cert.KernelIdeal.Facts] [hReferenceIdeal : Cert.ReferenceIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite_KernelIdeal m →
    (∀ c : Dev Cert.KernelIdeal.nD,
      m ((c.tc : Thread Cert.KernelIdeal.nD Cert.KernelIdeal.τ).loc Cert.KernelIdeal.main_arg0) = Layout.block ⟨3, ![4, 1024, 256]⟩ ⟨3, ![4, 1024, 4096]⟩ 2 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![128, 256]⟩ ⟨2, ![128, 4096]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 4096]⟩ 1 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![4, 1024, 256]⟩ ⟨3, ![4, 1024, 4096]⟩ 2 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_x_finite_KernelIdeal : Cert.Pre_x_finite_KernelIdeal.Facts) (hPre_x_finite_ReferenceIdeal : Cert.Pre_x_finite_ReferenceIdeal.Facts),
    quiescent_Kernel (hKernel := hKernel)
    ∧ quiescent_KernelIdeal (hKernelIdeal := hKernelIdeal)
    ∧ quiescent_KernelIdeal_pre_x_finite_KernelIdeal (hKernelIdeal := hKernelIdeal) (hPre_x_finite_KernelIdeal := hPre_x_finite_KernelIdeal)
    ∧ quiescent_ReferenceIdeal (hReferenceIdeal := hReferenceIdeal)
    ∧ quiescent_ReferenceIdeal_pre_x_finite_ReferenceIdeal (hReferenceIdeal := hReferenceIdeal) (hPre_x_finite_ReferenceIdeal := hPre_x_finite_ReferenceIdeal)
    ∧ preserves_Kernel_KernelIdeal
    ∧ algebraic_KernelIdeal_ReferenceIdeal_pre_x_finite_KernelIdeal (hKernelIdeal := hKernelIdeal) (hReferenceIdeal := hReferenceIdeal) (hPre_x_finite_KernelIdeal := hPre_x_finite_KernelIdeal)
-- ==== Pre_x_finite_KernelIdeal.lean ====
abbrev S4x1024x256 : Shape := ⟨3, ![4, 1024, 256]⟩
abbrev S4x128 : Shape := ⟨2, ![4, 128]⟩
abbrev S128x256 : Shape := ⟨2, ![128, 256]⟩
abbrev S_ : Shape := ⟨0, ![]⟩

class Facts : Prop where
  bcast_S_S4x1024x256 : S_.BroadcastsInDim S4x1024x256 (![] : Fin 0 → Fin S4x1024x256.rank)

variable [Facts]

def fn {F : FTy → Type} [FloatOps F] (main_arg0 : FVec F S4x1024x256 .bf16) (main_arg1 : FVec F S4x128 .bf16) (main_arg2 : FVec F S128x256 .bf16) (main_arg3 : FVec F S128x256 .bf16) : IVec S4x1024x256 1 :=
  let main_cst : FVec F S_ .bf16 := constant S_ .bf16 0xFF80#16
  let main_v0 : FVec F S4x1024x256 .bf16 := broadcastInDim S4x1024x256 ![] bcast_S_S4x1024x256 main_cst
  let main_v1 : IVec S4x1024x256 1 := cmpf .ogt main_arg0 main_v0
  let main_cst_0 : FVec F S_ .bf16 := constant S_ .bf16 0x7F80#16
  let main_v2 : FVec F S4x1024x256 .bf16 := broadcastInDim S4x1024x256 ![] bcast_S_S4x1024x256 main_cst_0
  let main_v3 : IVec S4x1024x256 1 := cmpf .olt main_arg0 main_v2
  let main_v4 : IVec S4x1024x256 1 := andi main_v1 main_v3
  main_v4
-- ==== Pre_x_finite_ReferenceIdeal.lean ====
abbrev S4x1024x4096 : Shape := ⟨3, ![4, 1024, 4096]⟩
abbrev S4x128 : Shape := ⟨2, ![4, 128]⟩
abbrev S128x4096 : Shape := ⟨2, ![128, 4096]⟩
abbrev S_ : Shape := ⟨0, ![]⟩

class Facts : Prop where
  bcast_S_S4x1024x4096 : S_.BroadcastsInDim S4x1024x4096 (![] : Fin 0 → Fin S4x1024x4096.rank)

variable [Facts]

def fn {F : FTy → Type} [FloatOps F] (main_arg0 : FVec F S4x1024x4096 .bf16) (main_arg1 : FVec F S4x128 .bf16) (main_arg2 : FVec F S128x4096 .bf16) (main_arg3 : FVec F S128x4096 .bf16) : IVec S4x1024x4096 1 :=
  let main_cst : FVec F S_ .bf16 := constant S_ .bf16 0xFF80#16
  let main_v0 : FVec F S4x1024x4096 .bf16 := broadcastInDim S4x1024x4096 ![] bcast_S_S4x1024x4096 main_cst
  let main_v1 : IVec S4x1024x4096 1 := cmpf .ogt main_arg0 main_v0
  let main_cst_0 : FVec F S_ .bf16 := constant S_ .bf16 0x7F80#16
  let main_v2 : FVec F S4x1024x4096 .bf16 := broadcastInDim S4x1024x4096 ![] bcast_S_S4x1024x4096 main_cst_0
  let main_v3 : IVec S4x1024x4096 1 := cmpf .olt main_arg0 main_v2
  let main_v4 : IVec S4x1024x4096 1 := andi main_v1 main_v3
  main_v4
-- ==== Kernel.lean ====
abbrev S4x1024x256 : Shape := ⟨3, ![4, 1024, 256]⟩
abbrev S4x128 : Shape := ⟨2, ![4, 128]⟩
abbrev S128x256 : Shape := ⟨2, ![128, 256]⟩
abbrev S8x8x1024 : Shape := ⟨3, ![8, 8, 1024]⟩
abbrev S12 : Shape := ⟨1, ![12]⟩
abbrev S_ : Shape := ⟨0, ![]⟩
abbrev S4x512x256 : Shape := ⟨3, ![4, 512, 256]⟩
abbrev S4x512 : Shape := ⟨2, ![4, 512]⟩
abbrev S8x512 : Shape := ⟨2, ![8, 512]⟩
abbrev S1x8x512 : Shape := ⟨3, ![1, 8, 512]⟩
abbrev S1 : Shape := ⟨1, ![1]⟩
abbrev S4x256 : Shape := ⟨2, ![4, 256]⟩
abbrev S4x8x512 : Shape := ⟨3, ![4, 8, 512]⟩
abbrev S4x1x256 : Shape := ⟨3, ![4, 1, 256]⟩
abbrev S3x8x512 : Shape := ⟨3, ![3, 8, 512]⟩
abbrev S8x1024 : Shape := ⟨2, ![8, 1024]⟩
abbrev S4x1024 : Shape := ⟨2, ![4, 1024]⟩
abbrev S4x1024x1 : Shape := ⟨3, ![4, 1024, 1]⟩

abbrev nBuf : Space → Nat
  | .hbm => 5
  | .vmem => 6
  | .smem => 0
  | _ => 0

abbrev bufTy : (tb : Table) → Fin (tcTables nBuf tb) → BufTy
  | .hbm, ⟨0, _⟩ => ⟨S4x1024x256, .bf16⟩
  | .hbm, ⟨1, _⟩ => ⟨S4x128, .bf16⟩
  | .hbm, ⟨2, _⟩ => ⟨S128x256, .bf16⟩
  | .hbm, ⟨3, _⟩ => ⟨S128x256, .bf16⟩
  | .hbm, ⟨4, _⟩ => ⟨S4x1024x256, .bf16⟩
  | .local _ .vmem, ⟨0, _⟩ => ⟨S4x1024x256, .bf16⟩
  | .local _ .vmem, ⟨1, _⟩ => ⟨S4x128, .bf16⟩
  | .local _ .vmem, ⟨2, _⟩ => ⟨S128x256, .bf16⟩
  | .local _ .vmem, ⟨3, _⟩ => ⟨S128x256, .bf16⟩
  | .local _ .vmem, ⟨4, _⟩ => ⟨S4x1024x256, .bf16⟩
  | .local _ .vmem, ⟨5, _⟩ => ⟨S8x8x1024, .bf16⟩
  | _, _ => ⟨S4x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 2 → Bool
  | ⟨0, _⟩ => false
  | ⟨1, _⟩ => true
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 2 29 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let v21 : BitVec 32 := Scalar.remsi v2 c4_i32_6
  let c1_i32_7 : BitVec 32 := 1#32
  let v22 : BitVec 32 := Scalar.addi v21 c1_i32_7
  let c4_i32_8 : BitVec 32 := 4#32
  let v23 : BitVec 32 := Scalar.remsi v22 c4_i32_8
  let v24 : BitVec 32 := Scalar.addi v20 v23
  let c1_i32_16 : BitVec 32 := 1#32
  let v38 : BitVec 32 := Scalar.muli v24 c1_i32_16
  let v39 : BitVec 32 := Scalar.addi c0_i32_17 v38
  v39.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let v21 : BitVec 32 := Scalar.remsi v2 c4_i32_6
  let c2_i32 : BitVec 32 := 2#32
  let v25 : BitVec 32 := Scalar.addi v21 c2_i32
  let c4_i32_9 : BitVec 32 := 4#32
  let v26 : BitVec 32 := Scalar.remsi v25 c4_i32_9
  let v27 : BitVec 32 := Scalar.addi v20 v26
  let c1_i32_19 : BitVec 32 := 1#32
  let v40 : BitVec 32 := Scalar.muli v27 c1_i32_19
  let v41 : BitVec 32 := Scalar.addi c0_i32_20 v40
  v41.toNat
def k0_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let v21 : BitVec 32 := Scalar.remsi v2 c4_i32_6
  let c3_i32 : BitVec 32 := 3#32
  let v28 : BitVec 32 := Scalar.addi v21 c3_i32
  let c4_i32_10 : BitVec 32 := 4#32
  let v29 : BitVec 32 := Scalar.remsi v28 c4_i32_10
  let v30 : BitVec 32 := Scalar.addi v20 v29
  let c1_i32_22 : BitVec 32 := 1#32
  let v42 : BitVec 32 := Scalar.muli v30 c1_i32_22
  let v43 : BitVec 32 := Scalar.addi c0_i32_23 v42
  v43.toNat
def k0_dev4 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v31 : BitVec 32 := Scalar.addi v2 c4_i32_11
  let c16_i32_12 : BitVec 32 := 16#32
  let v32 : BitVec 32 := Scalar.remsi v31 c16_i32_12
  let c1_i32_25 : BitVec 32 := 1#32
  let v44 : BitVec 32 := Scalar.muli v32 c1_i32_25
  let v45 : BitVec 32 := Scalar.addi c0_i32_26 v44
  v45.toNat
def k0_dev5 (d0 : Dev nD) : Nat :=
  let c0_i32_29 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v33 : BitVec 32 := Scalar.addi v2 c8_i32
  let c16_i32_13 : BitVec 32 := 16#32
  let v34 : BitVec 32 := Scalar.remsi v33 c16_i32_13
  let c1_i32_28 : BitVec 32 := 1#32
  let v46 : BitVec 32 := Scalar.muli v34 c1_i32_28
  let v47 : BitVec 32 := Scalar.addi c0_i32_29 v46
  v47.toNat
def k0_dev6 (d0 : Dev nD) : Nat :=
  let c0_i32_32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v35 : BitVec 32 := Scalar.addi v2 c12_i32
  let c16_i32_14 : BitVec 32 := 16#32
  let v36 : BitVec 32 := Scalar.remsi v35 c16_i32_14
  let c1_i32_31 : BitVec 32 := 1#32
  let v48 : BitVec 32 := Scalar.muli v36 c1_i32_31
  let v49 : BitVec 32 := Scalar.addi c0_i32_32 v48
  v49.toNat
def k0_dev7 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let v21 : BitVec 32 := Scalar.remsi v2 c4_i32_6
  let c1_i32_7 : BitVec 32 := 1#32
  let v22 : BitVec 32 := Scalar.addi v21 c1_i32_7
  let c4_i32_8 : BitVec 32 := 4#32
  let v23 : BitVec 32 := Scalar.remsi v22 c4_i32_8
  let v24 : BitVec 32 := Scalar.addi v20 v23
  let c1_i32_47 : BitVec 32 := 1#32
  let v76 : BitVec 32 := Scalar.muli v24 c1_i32_47
  let v77 : BitVec 32 := Scalar.addi c0_i32_48 v76
  v77.toNat
def k0_dev8 (d0 : Dev nD) : Nat :=
  let c0_i32_58 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let v21 : BitVec 32 := Scalar.remsi v2 c4_i32_6
  let c2_i32 : BitVec 32 := 2#32
  let v25 : BitVec 32 := Scalar.addi v21 c2_i32
  let c4_i32_9 : BitVec 32 := 4#32
  let v26 : BitVec 32 := Scalar.remsi v25 c4_i32_9
  let v27 : BitVec 32 := Scalar.addi v20 v26
  let c1_i32_57 : BitVec 32 := 1#32
  let v86 : BitVec 32 := Scalar.muli v27 c1_i32_57
  let v87 : BitVec 32 := Scalar.addi c0_i32_58 v86
  v87.toNat
def k0_dev9 (d0 : Dev nD) : Nat :=
  let c0_i32_68 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let v21 : BitVec 32 := Scalar.remsi v2 c4_i32_6
  let c3_i32 : BitVec 32 := 3#32
  let v28 : BitVec 32 := Scalar.addi v21 c3_i32
  let c4_i32_10 : BitVec 32 := 4#32
  let v29 : BitVec 32 := Scalar.remsi v28 c4_i32_10
  let v30 : BitVec 32 := Scalar.addi v20 v29
  let c1_i32_67 : BitVec 32 := 1#32
  let v96 : BitVec 32 := Scalar.muli v30 c1_i32_67
  let v97 : BitVec 32 := Scalar.addi c0_i32_68 v96
  v97.toNat
def k0_dev10 (d0 : Dev nD) : Nat :=
  let c0_i32_78 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let v21 : BitVec 32 := Scalar.remsi v2 c4_i32_6
  let c1_i32_7 : BitVec 32 := 1#32
  let v22 : BitVec 32 := Scalar.addi v21 c1_i32_7
  let c4_i32_8 : BitVec 32 := 4#32
  let v23 : BitVec 32 := Scalar.remsi v22 c4_i32_8
  let v24 : BitVec 32 := Scalar.addi v20 v23
  let c1_i32_77 : BitVec 32 := 1#32
  let v106 : BitVec 32 := Scalar.muli v24 c1_i32_77
  let v107 : BitVec 32 := Scalar.addi c0_i32_78 v106
  v107.toNat
def k0_dev11 (d0 : Dev nD) : Nat :=
  let c0_i32_87 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let v21 : BitVec 32 := Scalar.remsi v2 c4_i32_6
  let c2_i32 : BitVec 32 := 2#32
  let v25 : BitVec 32 := Scalar.addi v21 c2_i32
  let c4_i32_9 : BitVec 32 := 4#32
  let v26 : BitVec 32 := Scalar.remsi v25 c4_i32_9
  let v27 : BitVec 32 := Scalar.addi v20 v26
  let c1_i32_86 : BitVec 32 := 1#32
  let v116 : BitVec 32 := Scalar.muli v27 c1_i32_86
  let v117 : BitVec 32 := Scalar.addi c0_i32_87 v116
  v117.toNat
def k0_dev12 (d0 : Dev nD) : Nat :=
  let c0_i32_96 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let v21 : BitVec 32 := Scalar.remsi v2 c4_i32_6
  let c3_i32 : BitVec 32 := 3#32
  let v28 : BitVec 32 := Scalar.addi v21 c3_i32
  let c4_i32_10 : BitVec 32 := 4#32
  let v29 : BitVec 32 := Scalar.remsi v28 c4_i32_10
  let v30 : BitVec 32 := Scalar.addi v20 v29
  let c1_i32_95 : BitVec 32 := 1#32
  let v126 : BitVec 32 := Scalar.muli v30 c1_i32_95
  let v127 : BitVec 32 := Scalar.addi c0_i32_96 v126
  v127.toNat
def k0_dev13 (d0 : Dev nD) : Nat :=
  let c0_i32_152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v31 : BitVec 32 := Scalar.addi v2 c4_i32_11
  let c16_i32_12 : BitVec 32 := 16#32
  let v32 : BitVec 32 := Scalar.remsi v31 c16_i32_12
  let c1_i32_151 : BitVec 32 := 1#32
  let v177 : BitVec 32 := Scalar.muli v32 c1_i32_151
  let v178 : BitVec 32 := Scalar.addi c0_i32_152 v177
  v178.toNat
def k0_dev14 (d0 : Dev nD) : Nat :=
  let c0_i32_161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v33 : BitVec 32 := Scalar.addi v2 c8_i32
  let c16_i32_13 : BitVec 32 := 16#32
  let v34 : BitVec 32 := Scalar.remsi v33 c16_i32_13
  let c1_i32_160 : BitVec 32 := 1#32
  let v187 : BitVec 32 := Scalar.muli v34 c1_i32_160
  let v188 : BitVec 32 := Scalar.addi c0_i32_161 v187
  v188.toNat
def k0_dev15 (d0 : Dev nD) : Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v35 : BitVec 32 := Scalar.addi v2 c12_i32
  let c16_i32_14 : BitVec 32 := 16#32
  let v36 : BitVec 32 := Scalar.remsi v35 c16_i32_14
  let c1_i32_170 : BitVec 32 := 1#32
  let v197 : BitVec 32 := Scalar.muli v36 c1_i32_170
  let v198 : BitVec 32 := Scalar.addi c0_i32_171 v197
  v198.toNat
def k0_dev16 (d0 : Dev nD) : Nat :=
  let c0_i32_217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v31 : BitVec 32 := Scalar.addi v2 c4_i32_11
  let c16_i32_12 : BitVec 32 := 16#32
  let v32 : BitVec 32 := Scalar.remsi v31 c16_i32_12
  let c1_i32_216 : BitVec 32 := 1#32
  let v238 : BitVec 32 := Scalar.muli v32 c1_i32_216
  let v239 : BitVec 32 := Scalar.addi c0_i32_217 v238
  v239.toNat
def k0_dev17 (d0 : Dev nD) : Nat :=
  let c0_i32_226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v33 : BitVec 32 := Scalar.addi v2 c8_i32
  let c16_i32_13 : BitVec 32 := 16#32
  let v34 : BitVec 32 := Scalar.remsi v33 c16_i32_13
  let c1_i32_225 : BitVec 32 := 1#32
  let v248 : BitVec 32 := Scalar.muli v34 c1_i32_225
  let v249 : BitVec 32 := Scalar.addi c0_i32_226 v248
  v249.toNat
def k0_dev18 (d0 : Dev nD) : Nat :=
  let c0_i32_235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v35 : BitVec 32 := Scalar.addi v2 c12_i32
  let c16_i32_14 : BitVec 32 := 16#32
  let v36 : BitVec 32 := Scalar.remsi v35 c16_i32_14
  let c1_i32_234 : BitVec 32 := 1#32
  let v258 : BitVec 32 := Scalar.muli v36 c1_i32_234
  let v259 : BitVec 32 := Scalar.addi c0_i32_235 v258
  v259.toNat
def k0_dev19 (d0 : Dev nD) : Nat :=
  let c0_i32_358_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let v21 : BitVec 32 := Scalar.remsi v2 c4_i32_6
  let c1_i32_7 : BitVec 32 := 1#32
  let v22 : BitVec 32 := Scalar.addi v21 c1_i32_7
  let c4_i32_8 : BitVec 32 := 4#32
  let v23 : BitVec 32 := Scalar.remsi v22 c4_i32_8
  let v24 : BitVec 32 := Scalar.addi v20 v23
  let c1_i32_357_r0 : BitVec 32 := 1#32
  let v332_r0 : BitVec 32 := Scalar.muli v24 c1_i32_357_r0
  let v333_r0 : BitVec 32 := Scalar.addi c0_i32_358_r0 v332_r0
  v333_r0.toNat
def k0_dev20 (d0 : Dev nD) : Nat :=
  let c0_i32_361_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let v21 : BitVec 32 := Scalar.remsi v2 c4_i32_6
  let c2_i32 : BitVec 32 := 2#32
  let v25 : BitVec 32 := Scalar.addi v21 c2_i32
  let c4_i32_9 : BitVec 32 := 4#32
  let v26 : BitVec 32 := Scalar.remsi v25 c4_i32_9
  let v27 : BitVec 32 := Scalar.addi v20 v26
  let c1_i32_360_r0 : BitVec 32 := 1#32
  let v334_r0 : BitVec 32 := Scalar.muli v27 c1_i32_360_r0
  let v335_r0 : BitVec 32 := Scalar.addi c0_i32_361_r0 v334_r0
  v335_r0.toNat
def k0_dev21 (d0 : Dev nD) : Nat :=
  let c0_i32_364_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let v21 : BitVec 32 := Scalar.remsi v2 c4_i32_6
  let c3_i32 : BitVec 32 := 3#32
  let v28 : BitVec 32 := Scalar.addi v21 c3_i32
  let c4_i32_10 : BitVec 32 := 4#32
  let v29 : BitVec 32 := Scalar.remsi v28 c4_i32_10
  let v30 : BitVec 32 := Scalar.addi v20 v29
  let c1_i32_363_r0 : BitVec 32 := 1#32
  let v336_r0 : BitVec 32 := Scalar.muli v30 c1_i32_363_r0
  let v337_r0 : BitVec 32 := Scalar.addi c0_i32_364_r0 v336_r0
  v337_r0.toNat
def k0_dev22 (d0 : Dev nD) : Nat :=
  let c0_i32_367_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v31 : BitVec 32 := Scalar.addi v2 c4_i32_11
  let c16_i32_12 : BitVec 32 := 16#32
  let v32 : BitVec 32 := Scalar.remsi v31 c16_i32_12
  let c1_i32_366_r0 : BitVec 32 := 1#32
  let v338_r0 : BitVec 32 := Scalar.muli v32 c1_i32_366_r0
  let v339_r0 : BitVec 32 := Scalar.addi c0_i32_367_r0 v338_r0
  v339_r0.toNat
def k0_dev23 (d0 : Dev nD) : Nat :=
  let c0_i32_370_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v33 : BitVec 32 := Scalar.addi v2 c8_i32
  let c16_i32_13 : BitVec 32 := 16#32
  let v34 : BitVec 32 := Scalar.remsi v33 c16_i32_13
  let c1_i32_369_r0 : BitVec 32 := 1#32
  let v340_r0 : BitVec 32 := Scalar.muli v34 c1_i32_369_r0
  let v341_r0 : BitVec 32 := Scalar.addi c0_i32_370_r0 v340_r0
  v341_r0.toNat
def k0_dev24 (d0 : Dev nD) : Nat :=
  let c0_i32_373_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v35 : BitVec 32 := Scalar.addi v2 c12_i32
  let c16_i32_14 : BitVec 32 := 16#32
  let v36 : BitVec 32 := Scalar.remsi v35 c16_i32_14
  let c1_i32_372_r0 : BitVec 32 := 1#32
  let v342_r0 : BitVec 32 := Scalar.muli v36 c1_i32_372_r0
  let v343_r0 : BitVec 32 := Scalar.addi c0_i32_373_r0 v342_r0
  v343_r0.toNat
abbrev stage0_0 : Fin 1 → Memref sig .tc .vmem S4x1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4x1024x4096 : Shape := ⟨3, ![4, 1024, 4096]⟩
abbrev S4x128 : Shape := ⟨2, ![4, 128]⟩
abbrev S128x4096 : Shape := ⟨2, ![128, 4096]⟩
abbrev S_ : Shape := ⟨0, ![]⟩
abbrev S4x1024 : Shape := ⟨2, ![4, 1024]⟩
abbrev S4x1024x1 : Shape := ⟨3, ![4, 1024, 1]⟩
abbrev S4x4096 : Shape := ⟨2, ![4, 4096]⟩
abbrev S4x1x4096 : Shape := ⟨3, ![4, 1, 4096]⟩

abbrev nBuf : Space → Nat
  | .hbm => 58
  | .vmem => 0
  | .smem => 0
  | _ => 0

abbrev bufTy : (tb : Table) → Fin (tcTables nBuf tb) → BufTy
  | .hbm, ⟨0, _⟩ => ⟨S4x1024x4096, .bf16⟩
  | .hbm, ⟨1, _⟩ => ⟨S4x128, .bf16⟩
  | .hbm, ⟨2, _⟩ => ⟨S128x4096, .bf16⟩
  | .hbm, ⟨3, _⟩ => ⟨S128x4096, .bf16⟩
  | .hbm, ⟨4, _⟩ => ⟨S4x1024x4096, .f32⟩
  | .hbm, ⟨5, _⟩ => ⟨S4x128, .f32⟩
  | .hbm, ⟨6, _⟩ => ⟨S128x4096, .f32⟩
  | .hbm, ⟨7, _⟩ => ⟨S128x4096, .f32⟩
  | .hbm, ⟨8, _⟩ => ⟨S_, .f32⟩
  | .hbm, ⟨9, _⟩ => ⟨S4x1024, .f32⟩
  | .hbm, ⟨10, _⟩ => ⟨S4x1024x1, .f32⟩
  | .hbm, ⟨11, _⟩ => ⟨S_, .f32⟩
  | .hbm, ⟨12, _⟩ => ⟨S4x1024x1, .f32⟩
  | .hbm, ⟨13, _⟩ => ⟨S4x1024x1, .f32⟩
  | .hbm, ⟨14, _⟩ => ⟨S_, .i32⟩
  | .hbm, ⟨15, _⟩ => ⟨S_, .f32⟩
  | .hbm, ⟨16, _⟩ => ⟨S4x1024, .f32⟩
  | .hbm, ⟨17, _⟩ => ⟨S4x1024x1, .f32⟩
  | .hbm, ⟨18, _⟩ => ⟨S_, .f32⟩
  | .hbm, ⟨19, _⟩ => ⟨S4x1024x1, .f32⟩
  | .hbm, ⟨20, _⟩ => ⟨S4x1024x1, .f32⟩
  | .hbm, ⟨21, _⟩ => ⟨S4x1024x4096, .f32⟩
  | .hbm, ⟨22, _⟩ => ⟨S4x1024x4096, .f32⟩
  | .hbm, ⟨23, _⟩ => ⟨S4x1024x4096, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4x1024, .f32⟩
  | .hbm, ⟨29, _⟩ => ⟨S4x1024x1, .f32⟩
  | .hbm, ⟨30, _⟩ => ⟨S4x1024x1, .f32⟩
  | .hbm, ⟨31, _⟩ => ⟨S4x1024x1, .f32⟩
  | .hbm, ⟨32, _⟩ => ⟨S_, .f32⟩
  | .hbm, ⟨33, _⟩ => ⟨S_, .i1⟩
  | .hbm, ⟨34, _⟩ => ⟨S_, .f32⟩
  | .hbm, ⟨35, _⟩ => ⟨S_, .f32⟩
  | .hbm, ⟨36, _⟩ => ⟨S4x1024x1, .f32⟩
  | .hbm, ⟨37, _⟩ => ⟨S4x1024x1, .f32⟩
  | .hbm, ⟨38, _⟩ => ⟨S4x1024x4096, .f32⟩
  | .hbm, ⟨39, _⟩ => ⟨S4x1024x4096, .f32⟩
  | .hbm, ⟨40, _⟩ => ⟨S_, .f32⟩
  | .hbm, ⟨41, _⟩ => ⟨S4x1024x1, .f32⟩
  | .hbm, ⟨42, _⟩ => ⟨S4x1024x1, .f32⟩
  | .hbm, ⟨43, _⟩ => ⟨S4x1024x1, .f32⟩
  | .hbm, ⟨44, _⟩ => ⟨S4x1024x4096, .f32⟩
  | .hbm, ⟨45, _⟩ => ⟨S4x1024x4096, .f32⟩
  | .hbm, ⟨46, _⟩ => ⟨S4x4096, .f32⟩
  | .hbm, ⟨47, _⟩ => ⟨S4x4096, .f32⟩
  | .hbm, ⟨48, _⟩ => ⟨S4x1x4096, .f32⟩
  | .hbm, ⟨49, _⟩ => ⟨S_, .f32⟩
  | .hbm, ⟨50, _⟩ => ⟨S4x1x4096, .f32⟩
  | .hbm, ⟨51, _⟩ => ⟨S4x1x4096, .f32⟩
  | .hbm, ⟨52, _⟩ => ⟨S4x1024x4096, .f32⟩
  | .hbm, ⟨53, _⟩ => ⟨S4x1024x4096, .f32⟩
  | .hbm, ⟨54, _⟩ => ⟨S4x1x4096, .f32⟩
  | .hbm, ⟨55, _⟩ => ⟨S4x1024x4096, .f32⟩
  | .hbm, ⟨56, _⟩ => ⟨S4x1024x4096, .f32⟩
  | .hbm, ⟨57, _⟩ => ⟨S4x1024x4096, .bf16⟩
  | _, _ => ⟨S4x1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_cst_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_cst_1 : Ref sig .tc := ⟨.hbm, 25, rfl⟩
abbrev main_call0_v8 : Ref sig .tc := ⟨.hbm, 26, rfl⟩
abbrev main_call0_cst_2 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_cst_3 : Ref sig .tc := ⟨.hbm, 32, rfl⟩
abbrev main_call0_v13 : Ref sig .tc := ⟨.hbm, 33, rfl⟩
abbrev main_call0_cst_4 : Ref sig .tc := ⟨.hbm, 34, rfl⟩
abbrev main_call0_call0_v0 : Ref sig .tc := ⟨.hbm, 35, rfl⟩
abbrev main_call0_call0_v1 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst_1 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_cst_2 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩

abbrev nD : Nat := 1
abbrev τ : Topo := Topo.v7x

variable {F : FTy → Type} [FloatOps F]
-- ==== Proof.Geom.lean ====
/-
# The mesh, the scratch buffer cut into pieces, and what the pieces hold

Sixteen devices, four planes of four. Device `c = 4 q + p` talks to the three others of its plane (`pr 0 … pr 2`) and to
the three devices at its place in the other planes (`pr 3 … pr 5`). The scratch buffer has eight slots of 8 × 1024; a copy
moves one half (512 lanes) of one slot, so the buffer is cut into sixteen pieces `band s (s + 1) h`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.ValueKit.Geometry
public import Idealize.ShloMosaic.Lib.Tactic

@[expose] public section

set_option maxRecDepth 16384

noncomputable section

namespace Cert.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The mesh -/

/-- The peer that a device addresses as number `k`: three of its plane, then three of its column. -/
def pr (k : Fin 6) (c : Dev nD) : Dev nD :=
  if k.val < 3 then ⟨4 * (c.val / 4) + (c.val % 4 + k.val + 1) % 4, by have h : c.val < 16 := c.isLt; show _ < 16; omega⟩
  else ⟨(c.val + 4 * (k.val - 2)) % 16, by show _ < 16; omega⟩

/-- The number under which a device's peer `k` addresses the device. -/
def op (k : Fin 6) : Fin 6 := if h : k.val < 3 then ⟨2 - k.val, by omega⟩ else ⟨8 - k.val, by omega⟩

/-- A peer's peer number for this device, taken twice, is the number again. -/
theorem op_op (k : Fin 6) : op (op k) = k := by revert k; decide
/-- This device is its `op k`-th peer's `k`-th peer. -/
theorem pr_op (k : Fin 6) (c : Dev nD) : pr k (pr (op k) c) = c := by revert k c; decide
/-- This device is its `k`-th peer's `op k`-th peer. -/
theorem pr_op' (k : Fin 6) (c : Dev nD) : pr (op k) (pr k c) = c := by revert k c; decide

/-- Addressing peer `k` permutes the mesh. -/
def pe (k : Fin 6) : Dev nD ≃ Dev nD := ⟨pr k, pr (op k), pr_op' k, pr_op k⟩

/-- Copy `n` goes to peer `pk n`, carries half `hf n`, from slot `srcS n` to slot `dstS n`. -/
def pk (n : Fin 12) : Fin 6 := ⟨3 * (n.val / 6) + n.val % 3, by omega⟩
/-- The half of the lanes that copy `n` moves. -/
def hf (n : Fin 12) : Fin 2 := ⟨n.val / 3 % 2, by omega⟩
/-- The slot that copy `n` reads: 0 in the first exchange, 4 in the second. -/
def srcS (n : Fin 12) : Fin 8 := if n.val < 6 then 0 else 4
/-- The slot in which what is sent to peer `k` lands. -/
def sl (k : Fin 6) : Fin 8 := if k.val < 3 then ⟨k.val + 1, by omega⟩ else ⟨k.val + 2, by omega⟩

/-- The device of `c`'s plane whose partial sums land in `c`'s slot `s`. -/
def pp (s : ℕ) (c : Dev nD) : Dev nD := ⟨4 * (c.val / 4) + (c.val % 4 + 4 - s % 4) % 4, by have h : c.val < 16 := c.isLt; show _ < 16; omega⟩
/-- The device of `c`'s column whose plane sums land in `c`'s slot `4 + s`. -/
def co (s : ℕ) (c : Dev nD) : Dev nD := ⟨(c.val + 16 - 4 * (s % 4)) % 16, by show _ < 16; omega⟩

/-- The device itself is at offset 0 in its plane. -/
theorem pp_zero (c : Dev nD) : pp 0 c = c := by revert c; decide
/-- The device itself is at offset 0 in its column. -/
theorem co_zero (c : Dev nD) : co 0 c = c := by revert c; decide
/-- The plane peer that receives in slot `sl k` finds the sender at that offset in its plane. -/
theorem pp_pr (k : Fin 6) (hk : k.val < 3) (c : Dev nD) : pp (sl k).val (pr k c) = c := by revert k c; decide
/-- The column peer that receives in slot `sl k` finds the sender at that offset, less 4, in its column. -/
theorem co_pr (k : Fin 6) (hk : ¬ k.val < 3) (c : Dev nD) : co ((sl k).val - 4) (pr k c) = c := by revert k c; decide
/-- A landing slot is among the first four exactly for the plane's peers. -/
theorem sl_lt (k : Fin 6) : (sl k).val < 4 ↔ k.val < 3 := by revert k; decide

/-! ## The scratch buffer and its pieces -/

/-- The scratch buffer, whole. -/
abbrev scM : Memref sig .tc .vmem S8x8x1024 .bf16 := Memref.whole cc0_scratch0

/-- Slots `a ≤ s < b`, half `h`. -/
def band (a b h : ℕ) : Finset S8x8x1024.Idx := Finset.univ.filter fun i => a ≤ (i 0).val ∧ (i 0).val < b ∧ (i 2).val / 512 = h

/-- An index lies in a band when its slot and its half do. -/
theorem mem_band {a b h : ℕ} {i : S8x8x1024.Idx} : i ∈ band a b h ↔ (a ≤ (i 0).val ∧ (i 0).val < b ∧ (i 2).val / 512 = h) := by
  unfold band; rw [Finset.mem_filter]; exact ⟨fun h => h.2, fun h => ⟨Finset.mem_univ _, h⟩⟩

/-- Two adjoining bands make one. -/
theorem band_union {a b d h : ℕ} (h1 : a ≤ b) (h2 : b ≤ d) : band a b h ∪ band b d h = band a d h := by
  ext i; rw [Finset.mem_union, mem_band, mem_band, mem_band]; omega
/-- Adjoining bands are disjoint. -/
theorem band_disjoint (a b d h : ℕ) : Disjoint (band a b h) (band b d h) :=
  Finset.disjoint_left.mpr fun i h1 h2 => by rw [mem_band] at h1 h2; omega
/-- The two halves are disjoint. -/
theorem half_disjoint (a b : ℕ) : Disjoint (band a b 0) (band a b 1) :=
  Finset.disjoint_left.mpr fun i h1 h2 => by rw [mem_band] at h1 h2; omega
/-- The two halves of all eight slots are the whole buffer. -/
theorem half_union : band 0 8 0 ∪ band 0 8 1 = Finset.univ := by
  ext i; rw [Finset.mem_union, mem_band, mem_band]
  have h0 : (i 0).val < 8 := (i 0).isLt
  have h2 : (i 2).val < 1024 := (i 2).isLt
  simp only [Finset.mem_univ, iff_true]; omega

/-- A half of a slot lies within the buffer. -/
theorem inb_pc (s : Fin 8) (h : Fin 2) : ∀ a, ![s.val, 0, 512 * h.val] a + S1x8x512.size a ≤ S8x8x1024.size a := by revert s h; decide

/-- The memref a copy names: half `h` of slot `s`, as an 8 × 512 block. -/
abbrev pc (s : Fin 8) (h : Fin 2) : Memref sig .tc .vmem S8x512 .bf16 :=
  (scM.slice (Rect.unit (s := S8x8x1024) ![s.val, 0, 512 * h.val] S1x8x512.size (inb_pc s h)) (fun _ => rfl)).squeeze S8x512 squeezes_S1x8x512_S8x512

/-- The rectangle of `n` slots from slot `a`, one half of the lanes, is a band. -/
theorem unit_band (a n h : ℕ) (hh : h < 2) (inb : ∀ x, ![a, 0, 512 * h] x + (![n, 8, 512] : Fin 3 → ℕ) x ≤ S8x8x1024.size x) :
    (Rect.unit (s := S8x8x1024) ![a, 0, 512 * h] ![n, 8, 512] inb).set = band a (a + n) h := by
  ext i
  rw [Rect.mem_set_unit, mem_band]
  have h1 : (i 1).val < 8 := (i 1).isLt
  rw [show (∀ x, ![a, 0, 512 * h] x ≤ (i x).val ∧ (i x).val < ![a, 0, 512 * h] x + (![n, 8, 512] : Fin 3 → ℕ) x)
    ↔ (a ≤ (i 0).val ∧ (i 0).val < a + n) ∧ (0 ≤ (i 1).val ∧ (i 1).val < 0 + 8) ∧ (512 * h ≤ (i 2).val ∧ (i 2).val < 512 * h + 512) from Fin.forall_fin_succ.trans
      (and_congr Iff.rfl (Fin.forall_fin_succ.trans (and_congr Iff.rfl Fin.forall_fin_one)))]
  omega

/-- A piece covers its band. -/
theorem pc_set (s : Fin 8) (h : Fin 2) : (pc s h).view.set = band s.val (s.val + 1) h.val := by
  show (((View.whole cc0_scratch0).slice _).reshape S8x512 _).set = _
  rw [View.set_reshape, View.set_slice_whole]
  exact unit_band s.val 1 h.val h.isLt _

/-- A store to `n` slots of one half touches the band. -/
theorem access_set (a n h : ℕ) (hh : h < 2) (inb : ∀ x, ![a, 0, 512 * h] x + (![n, 8, 512] : Fin 3 → ℕ) x ≤ S8x8x1024.size x) :
    (scM.access (Rect.unit (s := S8x8x1024) ![a, 0, 512 * h] ![n, 8, 512] inb) : View sig .tc _ _ _).setOn Finset.univ = band a (a + n) h := by
  show ((View.whole cc0_scratch0).slice _).set = _
  rw [View.set_slice_whole]
  exact unit_band a n h hh inb

/-- A load from `n` slots of one half reads the band. -/
theorem load_set (a n h : ℕ) (hh : h < 2) (inb : ∀ x, ![a, 0, 512 * h] x + (![n, 8, 512] : Fin 3 → ℕ) x ≤ S8x8x1024.size x) :
    scM.view.setOn (Rect.unit (s := S8x8x1024) ![a, 0, 512 * h] ![n, 8, 512] inb).toLoadRect.set = band a (a + n) h := by
  rw [← unit_band a n h hh inb]
  exact Finset.map_refl

/-! ## Contents -/

/-- The contents of a device's block of `x`. -/
abbrev XTy (F : FTy → Type) : Type := (⟨S4x1024x256, .bf16⟩ : BufTy).Contents (Elt F)
/-- The contents of the scratch buffer. -/
abbrev ScTy (F : FTy → Type) : Type := (⟨S8x8x1024, .bf16⟩ : BufTy).Contents (Elt F)

/-- The index of a 1 × 8 × 512 block at row `b`, lane `l`. -/
def ix1 (b : Fin 8) (l : Fin 512) : S1x8x512.Idx := fun
  | ⟨0, _⟩ => (⟨0, Nat.one_pos⟩ : Fin 1)
  | ⟨1, _⟩ => b
  | ⟨2, _⟩ => l

variable (X : Dev nD → XTy F)

/-- A device's own partial sums (rows of sums, then of sums of squares), half `h`. -/
def st (c : Dev nD) (h : ℕ) : S1x8x512.Idx → Elt F .bf16 := if h = 0 then k0_pay2 (X c) else k0_pay3 (k0_pay1 (X c))
/-- The four partial sums of `c`'s plane, half `h`, its own first. -/
def plane4 (c : Dev nD) (h : ℕ) : S4x8x512.Idx → Elt F .bf16 := fun j => st X (pp (j 0).val c) h (ix1 (j 1) (j 2))
/-- The sums over `c`'s plane, half `h`. -/
def pt (c : Dev nD) (h : ℕ) : S1x8x512.Idx → Elt F .bf16 := if h = 0 then k0_pay7 (plane4 X c 0) else k0_pay9 (plane4 X c 1)
/-- The plane sums of the three other planes, half `h`. -/
def col3 (c : Dev nD) (h : ℕ) : S3x8x512.Idx → Elt F .bf16 := fun j => pt X (co ((j 0).val + 1) c) h (ix1 (j 1) (j 2))
/-- Everything a device's scratch buffer comes to hold: slots 0 to 3 the partial sums of its plane, slots 4 to 7 the plane sums of its column. -/
def scr (c : Dev nD) : ScTy F := fun i =>
  if (i 0).val < 4 then st X (pp (i 0).val c) ((i 2).val / 512) (ix1 (i 1) ⟨(i 2).val % 512, Nat.mod_lt _ (by decide)⟩)
  else pt X (co ((i 0).val - 4) c) ((i 2).val / 512) (ix1 (i 1) ⟨(i 2).val % 512, Nat.mod_lt _ (by decide)⟩)

/-- Slots 0 to 3 hold the statistics of the devices of the plane, by offset. -/
theorem scr_lo (c : Dev nD) (i : S8x8x1024.Idx) (s h : ℕ) (b : Fin 8) (l : Fin 512) (h0 : (i 0).val = s) (hs : s < 4) (h1 : (i 1).val = b.val)
    (h2 : (i 2).val = 512 * h + l.val) : scr X c i = st X (pp s c) h (ix1 b l) := by
  unfold scr
  rw [if_pos (by omega), h0, show (i 2).val / 512 = h by have := l.isLt; omega]
  congr 2
  · exact Fin.ext h1
  · exact Fin.ext (by have := l.isLt; show (i 2).val % 512 = l.val; omega)

/-- Slots 4 to 7 hold the plane sums of the devices of the column, by offset. -/
theorem scr_hi (c : Dev nD) (i : S8x8x1024.Idx) (s h : ℕ) (b : Fin 8) (l : Fin 512) (h0 : (i 0).val = 4 + s) (h1 : (i 1).val = b.val)
    (h2 : (i 2).val = 512 * h + l.val) : scr X c i = pt X (co s c) h (ix1 b l) := by
  unfold scr
  rw [if_neg (by omega), h0, show (i 2).val / 512 = h by have := l.isLt; omega, Nat.add_sub_cancel_left]
  congr 2
  · exact Fin.ext h1
  · exact Fin.ext (by have := l.isLt; show (i 2).val % 512 = l.val; omega)

/-- Reading slots 0 to 3 of a half gives the plane's four partial sums. -/
theorem read_plane (c : Dev nD) (h : ℕ) (inb : ∀ x, ![0, 0, 512 * h] x + S4x8x512.size x ≤ S8x8x1024.size x) :
    scM.view.readAt (Elt F) (Rect.unit (s := S8x8x1024) ![0, 0, 512 * h] S4x8x512.size inb).toLoadRect (scr X c) = plane4 X c h := by
  funext j
  have h0 : (j 0).val < 4 := (j 0).isLt
  exact scr_lo X c _ (j 0).val h (j 1) (j 2) ((ValueKit.rect_emb_unit_val (s := S8x8x1024) ![0, 0, 512 * h] S4x8x512.size inb j 0).trans (Nat.zero_add _)) h0
    ((ValueKit.rect_emb_unit_val (s := S8x8x1024) ![0, 0, 512 * h] S4x8x512.size inb j 1).trans (Nat.zero_add _))
    (ValueKit.rect_emb_unit_val (s := S8x8x1024) ![0, 0, 512 * h] S4x8x512.size inb j 2)

/-- Reading slots 5 to 7 of a half gives the three plane sums of the other planes. -/
theorem read_col (c : Dev nD) (h : ℕ) (inb : ∀ x, ![5, 0, 512 * h] x + S3x8x512.size x ≤ S8x8x1024.size x) :
    scM.view.readAt (Elt F) (Rect.unit (s := S8x8x1024) ![5, 0, 512 * h] S3x8x512.size inb).toLoadRect (scr X c) = col3 X c h := by
  funext j
  exact scr_hi X c _ ((j 0).val + 1) h (j 1) (j 2) ((ValueKit.rect_emb_unit_val (s := S8x8x1024) ![5, 0, 512 * h] S3x8x512.size inb j 0).trans
      (by show 5 + (j 0).val = _; omega))
    ((ValueKit.rect_emb_unit_val (s := S8x8x1024) ![5, 0, 512 * h] S3x8x512.size inb j 1).trans (Nat.zero_add _))
    (ValueKit.rect_emb_unit_val (s := S8x8x1024) ![5, 0, 512 * h] S3x8x512.size inb j 2)

/-- What a store of `w` leaves on the piece it covers, where `w` is what the buffer is to hold there. -/
theorem store_agrees (c : Dev nD) (a h : ℕ) (hh : h < 2) (inb : ∀ x, ![a, 0, 512 * h] x + S1x8x512.size x ≤ S8x8x1024.size x) (f : ScTy F) (w : S1x8x512.Idx → Elt F .bf16)
    (hw : ∀ (b : Fin 8) (l : Fin 512) (i : S8x8x1024.Idx), (i 0).val = a → (i 1).val = b.val → (i 2).val = 512 * h + l.val → scr X c i = w (ix1 b l)) :
    ∀ i ∈ band a (a + 1) h, (scM.access (Rect.unit (s := S8x8x1024) ![a, 0, 512 * h] S1x8x512.size inb) : View sig .tc _ _ _).write (Elt F) f w Finset.univ i = scr X c i := by
  intro i hi
  have hi' : i ∈ (Rect.unit (s := S8x8x1024) ![a, 0, 512 * h] S1x8x512.size inb).set := by
    have := unit_band a 1 h hh inb
    rw [show (Rect.unit (s := S8x8x1024) ![a, 0, 512 * h] S1x8x512.size inb).set = band a (a + 1) h from this]; exact hi
  rw [← Rect.map_emb_univ, Finset.mem_map] at hi'
  obtain ⟨j, -, rfl⟩ := hi'
  have e := View.write_emb_of_mem (Val := Elt F) (v := (scM.access (Rect.unit (s := S8x8x1024) ![a, 0, 512 * h] S1x8x512.size inb) : View sig .tc _ _ _)) f w (Finset.mem_univ j)
  have h0 : (j 0).val < 1 := (j 0).isLt
  refine Eq.trans e ?_
  refine Eq.trans ?_ (hw (j 1) (j 2) _ ((ValueKit.rect_emb_unit_val (s := S8x8x1024) ![a, 0, 512 * h] S1x8x512.size inb j 0).trans (by show a + (j 0).val = a; omega))
    ((ValueKit.rect_emb_unit_val (s := S8x8x1024) ![a, 0, 512 * h] S1x8x512.size inb j 1).trans (Nat.zero_add _))
    (ValueKit.rect_emb_unit_val (s := S8x8x1024) ![a, 0, 512 * h] S1x8x512.size inb j 2)).symm
  show w j = w (ix1 (j 1) (j 2))
  congr 1
  funext x
  match x with
  | ⟨0, _⟩ => exact Fin.ext (by show (j 0).val = 0; omega)
  | ⟨1, _⟩ => rfl
  | ⟨2, _⟩ => rfl

/-- Slot 0, first half: the device's own statistics, as the program computes them. -/
theorem scr_st0 (c : Dev nD) (b : Fin 8) (l : Fin 512) (i : S8x8x1024.Idx) (h0 : (i 0).val = 0) (h1 : (i 1).val = b.val) (h2 : (i 2).val = 512 * 0 + l.val) :
    scr X c i = k0_pay2 (X c) (ix1 b l) := by
  rw [scr_lo X c i 0 0 b l h0 (by decide) h1 h2, pp_zero]; rfl
/-- Slot 0, second half: the device's own statistics, as the program computes them. -/
theorem scr_st1 (c : Dev nD) (b : Fin 8) (l : Fin 512) (i : S8x8x1024.Idx) (h0 : (i 0).val = 0) (h1 : (i 1).val = b.val) (h2 : (i 2).val = 512 * 1 + l.val) :
    scr X c i = k0_pay3 (k0_pay1 (X c)) (ix1 b l) := by
  rw [scr_lo X c i 0 1 b l h0 (by decide) h1 h2, pp_zero]; rfl
/-- Slot 4, first half: the plane sums, as the program computes them. -/
theorem scr_pt0 (c : Dev nD) (b : Fin 8) (l : Fin 512) (i : S8x8x1024.Idx) (h0 : (i 0).val = 4) (h1 : (i 1).val = b.val) (h2 : (i 2).val = 512 * 0 + l.val) :
    scr X c i = k0_pay7 (plane4 X c 0) (ix1 b l) := by
  rw [scr_hi X c i 0 0 b l h0 h1 h2, co_zero]; rfl
/-- Slot 4, second half: the plane sums, as the program computes them. -/
theorem scr_pt1 (c : Dev nD) (b : Fin 8) (l : Fin 512) (i : S8x8x1024.Idx) (h0 : (i 0).val = 4) (h1 : (i 1).val = b.val) (h2 : (i 2).val = 512 * 1 + l.val) :
    scr X c i = k0_pay9 (plane4 X c 1) (ix1 b l) := by
  rw [scr_hi X c i 0 1 b l h0 h1 h2, co_zero]; rfl

/-- Within every piece, a position stands for the same row and the same lane of the half. -/
theorem pc_emb (s : Fin 8) (h : Fin 2) (j : S8x512.Idx) : ∃ (b : Fin 8) (l : Fin 512), ∀ (s : Fin 8) (h : Fin 2),
    ((pc s h).view.emb j 0).val = s.val ∧ ((pc s h).view.emb j 1).val = b.val ∧ ((pc s h).view.emb j 2).val = 512 * h.val + l.val := by
  obtain ⟨y, hy⟩ : ∃ y : S1x8x512.Idx, Shape.reshapeEquiv squeezes_S1x8x512_S8x512.numel_eq j = y := ⟨_, rfl⟩
  refine ⟨y 1, y 2, fun s h => ?_⟩
  have h0 : (y 0).val < 1 := (y 0).isLt
  have e : (pc s h).view.emb j = (Rect.unit (s := S8x8x1024) ![s.val, 0, 512 * h.val] S1x8x512.size (inb_pc s h)).emb y := by rw [← hy]; rfl
  rw [e]
  exact ⟨(ValueKit.rect_emb_unit_val (s := S8x8x1024) ![s.val, 0, 512 * h.val] S1x8x512.size (inb_pc s h) y 0).trans (by show s.val + (y 0).val = s.val; omega),
    (ValueKit.rect_emb_unit_val (s := S8x8x1024) ![s.val, 0, 512 * h.val] S1x8x512.size (inb_pc s h) y 1).trans (Nat.zero_add _),
    ValueKit.rect_emb_unit_val (s := S8x8x1024) ![s.val, 0, 512 * h.val] S1x8x512.size (inb_pc s h) y 2⟩

/-- The slot that a copy reads, by its peer: 0 to the plane, 4 to the column. -/
theorem pk_src (n : Fin 12) : (srcS n).val = if (pk n).val < 3 then 0 else 4 := by revert n; decide

/-- A copy leaves in the peer's landing piece what the peer's buffer is to hold there. -/
theorem send_agrees (n : Fin 12) (c : Dev nD) (fd : ScTy F) :
    ∀ i ∈ (pc (sl (pk n)) (hf n)).view.set, (pc (sl (pk n)) (hf n)).view.write (Elt F) fd ((pc (srcS n) (hf n)).view.read (Elt F) (scr X c)) Finset.univ i = scr X (pr (pk n) c) i := by
  intro i hi
  obtain ⟨j, -, rfl⟩ := Finset.mem_map.mp hi
  refine Eq.trans (View.write_emb_of_mem (Val := Elt F) (v := (pc (sl (pk n)) (hf n)).view) fd _ (Finset.mem_univ j)) ?_
  show scr X c ((pc (srcS n) (hf n)).view.emb j) = _
  obtain ⟨b, l, hbl⟩ := pc_emb 0 0 j
  obtain ⟨d0, d1, d2⟩ := hbl (sl (pk n)) (hf n)
  obtain ⟨s0, s1, s2⟩ := hbl (srcS n) (hf n)
  rw [pk_src] at s0
  by_cases hk : (pk n).val < 3
  · rw [if_pos hk] at s0
    rw [scr_lo X c _ 0 (hf n).val b l s0 (by decide) s1 s2, scr_lo X (pr (pk n) c) _ _ (hf n).val b l d0 ((sl_lt _).mpr hk) d1 d2, pp_zero, pp_pr _ hk]
  · rw [if_neg hk] at s0
    have h4 : ¬ (sl (pk n)).val < 4 := fun h => hk ((sl_lt _).mp h)
    rw [scr_hi X c _ 0 (hf n).val b l s0 s1 s2, scr_hi X (pr (pk n) c) _ ((sl (pk n)).val - 4) (hf n).val b l (d0.trans (by omega)) d1 d2, co_zero, co_pr _ hk]

end Cert.Talk

end
-- ==== Proof.Sched.lean ====
/-
# The protocol: cells, schedule, debts and levels

Each device has twenty-six cells: the barrier semaphore (paid one unit by each of its six peers, each unit handing over the
peer's landing pieces for one of the device's slots), the exit semaphore (one unit by each peer, nothing handed over), and
for each of the twelve copies a send cell (the lent share of the source piece comes back) and a receive cell (the landing
piece, filled). One round each.
-/
module

public import proofs.«01_k».proof.Proof.Geom

@[expose] public section

set_option maxRecDepth 16384

noncomputable section

namespace Cert.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The protocol's ghost state: rounds on the cells, six duties at most in each. -/
abbrev UB : Type := URounds (GSem nD τ sig) (Fin 6)
/-- The pipeline's ghost state and the protocol's. -/
abbrev UU : Type := UR sig nD τ × UB

local notation "𝕄" => MT nD τ sig Unit (Elt F) ℕ UU ℕ

/-- The pipeline's component. -/
abbrev EP : Emb (UR sig nD τ) (MT nD τ sig Unit (Elt F) ℕ UU ℕ) := embL
/-- The protocol's component. -/
abbrev ER : Emb UB (MT nD τ sig Unit (Elt F) ℕ UU ℕ) := embR

/-! ## The cells -/

/-- The barrier semaphore. -/
abbrev barS : Sem sig := (SemArray.scalar (sig.barrier 0 rfl) : Sems sig S_).sem
/-- The scoped semaphore of the exit. -/
abbrev exitS : Sem sig := (cc0_scoped0 : Sems sig S_).sem
/-- The semaphore on which copy `n` reports that it has left. -/
def sendS (n : Fin 12) : DmaSem sig := (⟨5 + n.val, by have := n.isLt; show _ < 29; omega⟩ : Fin 29)
/-- The semaphore on which copy `n` reports that it has landed. -/
def recvS (n : Fin 12) : DmaSem sig := (⟨17 + n.val, by have := n.isLt; show _ < 29; omega⟩ : Fin 29)

/-- Device `c`'s barrier cell. -/
abbrev barCell (c : Dev nD) : GSem nD τ sig := ((c : Thread nD τ), .reg barS)
/-- Device `c`'s exit cell. -/
abbrev exitCell (c : Dev nD) : GSem nD τ sig := ((c : Thread nD τ), .reg exitS)
/-- Device `c`'s send cell of copy `n`. -/
abbrev sendCell (c : Dev nD) (n : Fin 12) : GSem nD τ sig := ((c : Thread nD τ), .dma (sendS n))
/-- Device `c`'s receive cell of copy `n`. -/
abbrev recvCell (c : Dev nD) (n : Fin 12) : GSem nD τ sig := ((c : Thread nD τ), .dma (recvS n))

/-- The number of a semaphore: 0 the barrier's, 1 the exit's, `2 + n` and `14 + n` the send's and receive's of copy `n`; 26 a staging semaphore. -/
def kd : SemLoc sig → ℕ
  | .reg q => (q : Fin 2).val
  | .dma q => if (q : Fin 29).val < 5 then 26 else (q : Fin 29).val - 3

/-- The barrier's number. -/
theorem kd_bar : kd (.reg barS) = 0 := by decide
/-- The exit's number. -/
theorem kd_exit : kd (.reg exitS) = 1 := by decide
/-- A send semaphore's number. -/
theorem kd_send (n : Fin 12) : kd (.dma (sendS n)) = 2 + n.val := by revert n; decide
/-- A receive semaphore's number. -/
theorem kd_recv (n : Fin 12) : kd (.dma (recvS n)) = 14 + n.val := by revert n; decide

/-- The credit of one copy: the bytes of a piece. -/
abbrev N : ℕ := (pc 0 0).view.dmaCredit
/-- A copy's credit is positive. -/
theorem N_pos : 0 < N := View.dmaCredit_pos _ (by decide)

/-- The share of the source piece that a copy borrows. -/
def sq (n : Fin 12) : PosShare TreeShare :=
  if n.val % 3 = 0 then fullShare.left.left else if n.val % 3 = 1 then fullShare.left.right else fullShare.right.left
/-- The share that stays. -/
abbrev keep : PosShare TreeShare := fullShare.right.right

/-! ## Points-to of bands of the scratch buffer -/

/-- Slots `a` to `b - 1`, half `h`, of device `c`'s scratch buffer at contents `f`, at share `q`. -/
def P (c : Dev nD) (a b h : ℕ) (q : PosShare TreeShare) (f : ScTy F) : sProp 𝕄 :=
  ((c : Thread nD τ).loc cc0_scratch0) ↦[band a b h]{q} (f : Buf (Elt F) ((c : Thread nD τ).loc cc0_scratch0))

/-- A band's points-to may be kept in a cell. -/
instance P_storable (c : Dev nD) (a b h : ℕ) (q) (f : ScTy F) : BI.Storable (upEmb : UEmb _ 𝕄) (P c a b h q f) := by unfold P; infer_instance

/-- A band's points-to splits at a slot. -/
theorem P_join (c : Dev nD) {a b d h : ℕ} (q) (f : ScTy F) (h1 : a ≤ b) (h2 : b ≤ d) :
    (P c a d h q f : sProp 𝕄) ⊣⊢ iprop(P c a b h q f ∗ P c b d h q f) := by
  unfold P; rw [← band_union h1 h2]; exact pointsTo_union (band_disjoint a b d h)

/-- A band's points-to splits into two shares. -/
theorem P_share (c : Dev nD) (a b h : ℕ) (q : PosShare TreeShare) (f : ScTy F) :
    (P c a b h q f : sProp 𝕄) ⊣⊢ iprop(P c a b h q.left f ∗ P c a b h q.right f) := by
  unfold P; exact pointsTo_share (PosShare.mem_left_op_right q)

/-- A band's points-to depends on the contents within the band alone. -/
theorem P_congr (c : Dev nD) (a b h : ℕ) (q) (f g : ScTy F) (e : ∀ i ∈ band a b h, f i = g i) : (P c a b h q f : sProp 𝕄) = P c a b h q g := by
  unfold P; exact pointsTo_congr e

/-- A full piece, as the three lent shares and the one that stays. -/
theorem P_lend (c : Dev nD) (a b h : ℕ) (f : ScTy F) :
    (P c a b h fullShare f : sProp 𝕄) ⊣⊢
      iprop((P c a b h fullShare.left.left f ∗ P c a b h fullShare.left.right f) ∗ P c a b h fullShare.right.left f ∗ P c a b h keep f) :=
  (P_share c a b h fullShare f).trans (sep_congr (P_share c a b h fullShare.left f) (P_share c a b h fullShare.right f))

/-! ## The payloads -/

variable (X : Dev nD → XTy F)

/-- Duty `k` of `c`'s barrier cell hands over the two landing pieces of peer `k` into which `c` copies. -/
def barPay (c : Dev nD) (k : Fin 6) : sProp 𝕄 :=
  iprop(∃ f : ScTy F, P (pr k c) (sl k).val ((sl k).val + 1) 0 fullShare f ∗ P (pr k c) (sl k).val ((sl k).val + 1) 1 fullShare f)
/-- Copy `n`'s send cell hands back the lent share of its source piece. -/
def sendPay (c : Dev nD) (n : Fin 12) : sProp 𝕄 := P c (srcS n).val ((srcS n).val + 1) (hf n).val (sq n) (scr X c)
/-- Copy `n`'s receive cell hands over its landing piece, filled. -/
def recvPay (c : Dev nD) (n : Fin 12) : sProp 𝕄 := P c (sl (pk n)).val ((sl (pk n)).val + 1) (hf n).val fullShare (scr X c)

/-- The copy of a send or receive semaphore's number. -/
def nOf (k : ℕ) : Fin 12 := ⟨(k + 10) % 12, Nat.mod_lt _ (by decide)⟩
/-- A send semaphore's number gives its copy. -/
theorem nOf_send (n : Fin 12) : nOf (2 + n.val) = n := by revert n; decide
/-- A receive semaphore's number gives its copy. -/
theorem nOf_recv (n : Fin 12) : nOf (14 + n.val) = n := by revert n; decide

/-- What duty `d` of the cell with number `k` hands over on device `c`. -/
def payK (c : Dev nD) (k : ℕ) (d : Fin 6) : sProp 𝕄 :=
  if k = 0 then barPay c d else if k = 1 then iprop(emp) else if k < 14 then sendPay X c (nOf k) else if k < 26 then recvPay X c (nOf k) else iprop(emp)

/-- The schedule: one round. -/
def Rd : Rounds.Schedule (GSem nD τ sig) (Fin 6) 𝕄 where
  duties g r := if r = 0 ∧ g.1.2 = .tc ∧ kd g.2 < 26 then (if kd g.2 < 2 then Finset.univ else {0}) else ∅
  unitless _ := False
  amount g _ _ := if kd g.2 < 2 then 1 else N
  payload g _ d := payK X g.1.1 (kd g.2) d
  amount_pos g _ _ _ := by
    by_cases h : kd g.2 < 2
    · rw [if_pos h]; exact Nat.one_pos
    · rw [if_neg h]; exact N_pos

/-- Every payload may be kept in a cell. -/
instance Rd_storable (g : GSem nD τ sig) (r : ℕ) (d : Fin 6) : BI.Storable (upEmb : UEmb _ 𝕄) ((Rd X).payload g r d) := by
  show BI.Storable upEmb (payK X g.1.1 (kd g.2) d)
  unfold payK barPay sendPay recvPay
  (repeat' split) <;> infer_instance

section Tables
variable (c : Dev nD) (n : Fin 12) (k : Fin 6)

/-- The barrier cell has six duties. -/
theorem duties_bar : (Rd X).duties (barCell c) 0 = Finset.univ := by
  dsimp only [Rd]; rw [kd_bar, if_pos ⟨rfl, rfl, by decide⟩, if_pos (by decide)]
/-- The exit cell has six duties. -/
theorem duties_exit : (Rd X).duties (exitCell c) 0 = Finset.univ := by
  dsimp only [Rd]; rw [kd_exit, if_pos ⟨rfl, rfl, by decide⟩, if_pos (by decide)]
/-- A send cell has one duty. -/
theorem duties_send : (Rd X).duties (sendCell c n) 0 = {0} := by
  have := n.isLt
  dsimp only [Rd]; rw [kd_send, if_pos ⟨rfl, rfl, by omega⟩, if_neg (by omega)]
/-- A receive cell has one duty. -/
theorem duties_recv : (Rd X).duties (recvCell c n) 0 = {0} := by
  have := n.isLt
  dsimp only [Rd]; rw [kd_recv, if_pos ⟨rfl, rfl, by omega⟩, if_neg (by omega)]
/-- No cell has a duty after its first round. -/
theorem duties_later (g : GSem nD τ sig) : ∀ r, 1 ≤ r → (Rd X).duties g r = ∅ :=
  fun r hr => by dsimp only [Rd]; rw [if_neg fun h => by omega]

/-- A barrier duty pays one unit. -/
theorem amount_bar : (Rd X).amount (barCell c) 0 k = 1 := by dsimp only [Rd]; rw [kd_bar]; exact if_pos (by decide)
/-- An exit duty pays one unit. -/
theorem amount_exit : (Rd X).amount (exitCell c) 0 k = 1 := by dsimp only [Rd]; rw [kd_exit]; exact if_pos (by decide)
/-- A send cell's duty pays the copy's credit. -/
theorem amount_send : (Rd X).amount (sendCell c n) 0 k = N := by dsimp only [Rd]; rw [kd_send]; exact if_neg (by omega)
/-- A receive cell's duty pays the copy's credit. -/
theorem amount_recv : (Rd X).amount (recvCell c n) 0 k = N := by dsimp only [Rd]; rw [kd_recv]; exact if_neg (by omega)

/-- The barrier cell's round is worth six units. -/
theorem expect_bar : (Rd X).expect (barCell c) 0 = 6 := by
  unfold Schedule.expect Schedule.amountOf
  rw [duties_bar, Finset.sum_congr rfl fun d _ => amount_bar X c d, Finset.sum_const, Finset.card_univ, Fintype.card_fin, smul_eq_mul]
/-- The exit cell's round is worth six units. -/
theorem expect_exit : (Rd X).expect (exitCell c) 0 = 6 := by
  unfold Schedule.expect Schedule.amountOf
  rw [duties_exit, Finset.sum_congr rfl fun d _ => amount_exit X c d, Finset.sum_const, Finset.card_univ, Fintype.card_fin, smul_eq_mul]
/-- A send cell's round is worth the copy's credit. -/
theorem expect_send : (Rd X).expect (sendCell c n) 0 = N := by
  unfold Schedule.expect Schedule.amountOf; rw [duties_send, Finset.sum_singleton, amount_send]
/-- A receive cell's round is worth the copy's credit. -/
theorem expect_recv : (Rd X).expect (recvCell c n) 0 = N := by
  unfold Schedule.expect Schedule.amountOf; rw [duties_recv, Finset.sum_singleton, amount_recv]

/-- A barrier duty hands over landing pieces. -/
theorem payload_bar : (Rd X).payload (barCell c) 0 k = barPay c k := by
  show payK X c (kd (.reg barS)) k = _; rw [kd_bar]; exact if_pos rfl
/-- An exit duty hands over nothing. -/
theorem payload_exit : (Rd X).payload (exitCell c) 0 k = iprop(emp) := by
  show payK X c (kd (.reg exitS)) k = _; rw [kd_exit]; rfl
/-- A send cell's duty gives the lent share back. -/
theorem payload_send : (Rd X).payload (sendCell c n) 0 k = sendPay X c n := by
  have := n.isLt
  show payK X c (kd _) k = _; rw [kd_send]; unfold payK; rw [if_neg (by omega), if_neg (by omega), if_pos (by omega), nOf_send]
/-- A receive cell's duty hands over the filled piece. -/
theorem payload_recv : (Rd X).payload (recvCell c n) 0 k = recvPay X c n := by
  have := n.isLt
  show payK X c (kd _) k = _; rw [kd_recv]; unfold payK; rw [if_neg (by omega), if_neg (by omega), if_neg (by omega), if_pos (by omega), nOf_recv]

/-- A family of six, written out. -/
theorem bigSep_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- All that the barrier's round hands over. -/
theorem rest_bar : bigSep ((Rd X).duties (barCell c) 0 \ ∅) (fun d => (Rd X).payload (barCell c) 0 d)
    = iprop(barPay c 0 ∗ barPay c 1 ∗ barPay c 2 ∗ barPay c 3 ∗ barPay c 4 ∗ barPay c 5) := by
  rw [Finset.sdiff_empty, duties_bar, bigSep_six]; simp only [payload_bar]
/-- All that a send cell's round hands over. -/
theorem rest_send : bigSep ((Rd X).duties (sendCell c n) 0 \ ∅) (fun d => (Rd X).payload (sendCell c n) 0 d) = sendPay X c n := by
  rw [Finset.sdiff_empty, duties_send, bigSep_singleton, payload_send]
/-- All that a receive cell's round hands over. -/
theorem rest_recv : bigSep ((Rd X).duties (recvCell c n) 0 \ ∅) (fun d => (Rd X).payload (recvCell c n) 0 d) = recvPay X c n := by
  rw [Finset.sdiff_empty, duties_recv, bigSep_singleton, payload_recv]

end Tables

/-! ## What each device owes, and the levels -/

/-- Payment number `t` of device `c`, in program order: six barrier units, twelve copies, six exit units. -/
def payCell (c : Dev nD) (t : ℕ) : GSem nD τ sig :=
  if t < 6 then barCell (pr (Fin.ofNat 6 t) c) else if t < 18 then recvCell (pr (pk (Fin.ofNat 12 (t - 6))) c) (Fin.ofNat 12 (t - 6)) else exitCell (pr (Fin.ofNat 6 (t - 18)) c)
/-- The amount of payment number `t`. -/
def payAmt (t : ℕ) : ℕ := if t < 6 then 1 else if t < 18 then N else 1

/-- What `c` still owes with `s` payments left. -/
def Or (c : Dev nD) : ℕ → CellTallies nD τ sig Unit
  | 0 => 0
  | s + 1 => Or c s + tallyAt (payCell c (23 - s)) () (payAmt (23 - s))
/-- What a device owes at the start: all twenty-four payments. -/
def O₀ (c : Dev nD) : CellTallies nD τ sig Unit := Or c 24

/-- What is still owed is owed by a payment still to be made. -/
theorem Or_pos {c : Dev nD} {g : GSem nD τ sig} {u : Unit} : ∀ {s : ℕ}, s ≤ 24 → 0 < Or c s g u → ∃ t, 24 - s ≤ t ∧ t < 24 ∧ g = payCell c t
  | 0, _, h => absurd h (Nat.lt_irrefl 0)
  | s + 1, hs, h => by
    unfold Or at h
    rw [Pi.add_apply, Finsupp.add_apply, tallyAt_apply] at h
    by_cases hg : g = payCell c (23 - s) ∧ u = ()
    · exact ⟨23 - s, by omega, by omega, hg.1⟩
    · rw [if_neg hg, Nat.add_zero] at h
      obtain ⟨t, h1, h2, h3⟩ := Or_pos (by omega) h
      exact ⟨t, by omega, h2, h3⟩

/-- The levels in use: one on each TensorCore's cell. -/
def L (g : GSem nD τ sig) : Finset Unit := if g.1.2 = .tc then {()} else ∅
/-- The barrier at 1, the receives of the first exchange at 2, those of the second at 3, the exit at 4, the rest at 0. -/
def lvK (k : ℕ) : ℕ := if k = 0 then 1 else if k = 1 then 4 else if k < 14 then 0 else if k < 20 then 2 else if k < 26 then 3 else 0
/-- A cell's level. -/
def lv (g : GSem nD τ sig) (_ : Unit) : ℕ := lvK (kd g.2)

/-- No level elsewhere. -/
theorem L_of_ne (g : GSem nD τ sig) (h : g.1.2 ≠ .tc) : L g = ∅ := if_neg h
/-- A TensorCore's cell has the one level. -/
theorem L_tc (c : Dev nD) (sm : SemLoc sig) : L ((c : Thread nD τ), sm) = {()} := if_pos rfl

/-- Every payment goes to a TensorCore's cell. -/
theorem payCell_tc (c : Dev nD) (t : ℕ) : (payCell c t).1.2 = .tc := by unfold payCell; (repeat' split) <;> rfl
/-- The level of the cell that payment `t` goes to. -/
theorem payCell_lv (c : Dev nD) (t : ℕ) (ht : t < 24) : lv (payCell c t) () = if t < 6 then 1 else if t < 12 then 2 else if t < 18 then 3 else 4 := by
  unfold lv payCell
  by_cases h6 : t < 6
  · rw [if_pos h6, if_pos h6, kd_bar]; rfl
  · rw [if_neg h6, if_neg h6]
    by_cases h18 : t < 18
    · rw [if_pos h18, kd_recv]
      have e : (Fin.ofNat 12 (t - 6)).val = t - 6 := Nat.mod_eq_of_lt (by omega)
      rw [e]; unfold lvK
      rw [if_neg (by omega), if_neg (by omega), if_neg (by omega)]
      by_cases h12 : t < 12
      · rw [if_pos (by omega), if_pos h12]
      · rw [if_neg (by omega), if_neg h12, if_pos (by omega), if_pos h18]
    · rw [if_neg h18, if_neg (by omega), if_neg h18, kd_exit]; rfl

/-- A device may wait at a cell whose level is below those of everything it still owes. -/
theorem mayWait (c : Dev nD) (sm : SemLoc sig) (s : ℕ) (hs : s ≤ 24)
    (h : ∀ t, 24 - s ≤ t → t < 24 → lvK (kd sm) < if t < 6 then 1 else if t < 12 then 2 else if t < 18 then 3 else 4) :
    (levAts L lv : sProp 𝕄) ⊢ MayWait (c : Thread nD τ) sm () (Or c s) :=
  MayOwe.of_cut (L := L) (lev := lv) (lvK (kd sm)) (fun p hp => by rw [Finset.mem_singleton.mp hp, L_tc]; exact Finset.mem_singleton_self _)
    (fun g u hg => by
      obtain ⟨t, -, -, rfl⟩ := Or_pos hs hg
      unfold L; rw [if_pos (payCell_tc c t)]; exact Finset.mem_singleton_self _)
    (fun p hp => by rw [Finset.mem_singleton.mp hp]; exact le_rfl)
    (fun g u hg => by
      obtain ⟨t, h1, h2, rfl⟩ := Or_pos hs hg
      rw [payCell_lv c t h2]; exact h t h1 h2)

end Cert.Talk

end
-- ==== Proof.Steps.lean ====
/-
# One lemma per kind of remote step

Each is a rule of the rounds library at this protocol's cells, with the cell's invariant drawn from the shared records and
the recorded waits hidden.
-/
module

public import proofs.«01_k».proof.Proof.Sched

@[expose] public section

set_option maxRecDepth 16384

noncomputable section

namespace Cert.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → XTy F)

/-- No loop variants. -/
abbrev 𝒱₀ : Variants := Variants.none

/-! ## The cells as one family, and their records -/

/-- A device's twenty-six semaphores: barrier, exit, twelve sends, twelve receives. -/
def csem (k : Fin 26) : SemLoc sig :=
  if k.val = 0 then .reg barS else if k.val = 1 then .reg exitS else .dma (⟨k.val + 3, by have := k.isLt; show _ < 29; omega⟩ : Fin 29)
/-- A device's cell by its number. -/
def kcell (ck : Dev nD × Fin 26) : GSem nD τ sig := ((ck.1 : Thread nD τ), csem ck.2)

/-- The number of copy `n`'s send cell. -/
def sk (n : Fin 12) : Fin 26 := ⟨2 + n.val, by have := n.isLt; omega⟩
/-- The number of copy `n`'s receive cell. -/
def rk (n : Fin 12) : Fin 26 := ⟨14 + n.val, by have := n.isLt; omega⟩

/-- Number 0 is the barrier cell. -/
theorem kcell_bar (c : Dev nD) : kcell (c, 0) = barCell c := rfl
/-- Number 1 is the exit cell. -/
theorem kcell_exit (c : Dev nD) : kcell (c, 1) = exitCell c := rfl
/-- The semaphore at a send cell's number. -/
theorem csem_send (n : Fin 12) : csem (sk n) = .dma (sendS n) := by revert n; decide
/-- The semaphore at a receive cell's number. -/
theorem csem_recv (n : Fin 12) : csem (rk n) = .dma (recvS n) := by revert n; decide
/-- The cell at a send cell's number. -/
theorem kcell_send (c : Dev nD) (n : Fin 12) : kcell (c, sk n) = sendCell c n := by unfold kcell; rw [csem_send]
/-- The cell at a receive cell's number. -/
theorem kcell_recv (c : Dev nD) (n : Fin 12) : kcell (c, rk n) = recvCell c n := by unfold kcell; rw [csem_recv]

/-- Every cell's invariant, under the names `K`, and that every cell has reached its round 0. -/
def records (K : Dev nD × Fin 26 → ℕ) : sProp 𝕄 :=
  iprop((bigSep Finset.univ fun ck : Dev nD × Fin 26 => cellInv ER (Rd X) (K ck) (kcell ck))
    ∗ bigSep Finset.univ fun ck : Dev nD × Fin 26 => reached ER (kcell ck) 0)

/-- The records may be kept and used again. -/
instance records_persistent (K : Dev nD × Fin 26 → ℕ) : BI.Persistent (records X K) := by unfold records; infer_instance

variable (K : Dev nD × Fin 26 → ℕ)

/-- The records hold of each cell its invariant and that its first round is reached. -/
theorem records_at (ck : Dev nD × Fin 26) : records X K ⊢ iprop(cellInv ER (Rd X) (K ck) (kcell ck) ∗ reached ER (kcell ck) 0) := by
  unfold records
  iintro ⟨HI, HR⟩
  isplitl [HI]
  · iapply (show (bigSep Finset.univ fun ck : Dev nD × Fin 26 => (cellInv ER (Rd X) (K ck) (kcell ck) : sProp 𝕄)) ⊢ cellInv ER (Rd X) (K ck) (kcell ck) from
      bigSep_elim (Finset.mem_univ ck)); iexact HI
  · iapply (show (bigSep Finset.univ fun ck : Dev nD × Fin 26 => (reached ER (kcell ck) 0 : sProp 𝕄)) ⊢ reached ER (kcell ck) 0 from
      bigSep_elim (Finset.mem_univ ck)); iexact HR

/-- The record of a barrier cell. -/
theorem records_bar (c : Dev nD) : records X K ⊢ iprop(cellInv ER (Rd X) (K (c, 0)) (barCell c) ∗ reached ER (barCell c) 0) := records_at X K (c, 0)
/-- The record of an exit cell. -/
theorem records_exit (c : Dev nD) : records X K ⊢ iprop(cellInv ER (Rd X) (K (c, 1)) (exitCell c) ∗ reached ER (exitCell c) 0) := records_at X K (c, 1)
/-- The record of a send cell. -/
theorem records_send (c : Dev nD) (n : Fin 12) : records X K ⊢ iprop(cellInv ER (Rd X) (K (c, sk n)) (sendCell c n) ∗ reached ER (sendCell c n) 0) := by
  have h := records_at X K (c, sk n); rwa [kcell_send] at h
/-- The record of a receive cell. -/
theorem records_recv (c : Dev nD) (n : Fin 12) : records X K ⊢ iprop(cellInv ER (Rd X) (K (c, rk n)) (recvCell c n) ∗ reached ER (recvCell c n) 0) := by
  have h := records_at X K (c, rk n); rwa [kcell_recv] at h

/-! ## What a step holds -/

/-- `c` owes what is left of its last `s` payments, whatever waits it has recorded. -/
def Ow (c : Dev nD) (s : ℕ) : sProp 𝕄 := iprop(∃ W : Waits sig Unit, owes (c : Thread nD τ) (Or c s) W)

/-- The right to pay peer `k`'s barrier cell, and its exit cell. -/
def sigTok (c : Dev nD) (k : Fin 6) : sProp 𝕄 := dutyTok ER (barCell (pr k c)) 0 (op k)
/-- The right to pay peer `k`'s exit cell. -/
def exitTok (c : Dev nD) (k : Fin 6) : sProp 𝕄 := dutyTok ER (exitCell (pr k c)) 0 (op k)
/-- The rights that copy `n` uses. -/
def copyTok (c : Dev nD) (n : Fin 12) : sProp 𝕄 := iprop(dutyTok ER (sendCell c n) 0 0 ∗ dutyTok ER (recvCell (pr (pk n) c) n) 0 0)
/-- The landing piece of copy `n`, on the peer. -/
def dstP (c : Dev nD) (n : Fin 12) : sProp 𝕄 := iprop(∃ f : ScTy F, P (pr (pk n) c) (sl (pk n)).val ((sl (pk n)).val + 1) (hf n).val fullShare f)
/-- Before and after the wait for a receive. -/
def rcv0 (c : Dev nD) (n : Fin 12) : sProp 𝕄 := iprop(atPos ER (recvCell c n) 0 ∅ 0 ∗ cred (tallyAt (recvCell c n) () N))
/-- A receive cell, closed at zero. -/
def rcv1 (c : Dev nD) (n : Fin 12) : sProp 𝕄 := semVal (recvCell c n) 0
/-- A send cell before its copy is started, while it is in flight, and after the wait for it. -/
def snd0 (c : Dev nD) (n : Fin 12) : sProp 𝕄 := atPos ER (sendCell c n) 0 ∅ 0
/-- A send cell with its copy begun and its credit at hand. -/
def snd1 (c : Dev nD) (n : Fin 12) : sProp 𝕄 := iprop(atPos ER (sendCell c n) 0 ∅ 0 ∗ cred (tallyAt (sendCell c n) () N))
/-- A send cell, closed at zero. -/
def snd2 (c : Dev nD) (n : Fin 12) : sProp 𝕄 := semVal (sendCell c n) 0

/-- The slots `c` hands to peer `k` at the barrier. -/
def handP (c : Dev nD) (k : Fin 6) : sProp 𝕄 :=
  iprop(∃ f : ScTy F, P c (sl (op k)).val ((sl (op k)).val + 1) 0 fullShare f ∗ P c (sl (op k)).val ((sl (op k)).val + 1) 1 fullShare f)

/-- The first six payments are the barrier's. -/
theorem payCell_sig (c : Dev nD) (k : Fin 6) : payCell c k.val = barCell (pr k c) := by
  unfold payCell; rw [if_pos k.isLt]; simp only [Fin.ofNat_val_eq_self]
/-- The last six are the exit's. -/
theorem payCell_exit (c : Dev nD) (k : Fin 6) : payCell c (18 + k.val) = exitCell (pr k c) := by
  unfold payCell; rw [if_neg (by omega), if_neg (by omega), Nat.add_sub_cancel_left]; simp only [Fin.ofNat_val_eq_self]
/-- The twelve between are the copies'. -/
theorem payCell_copy (c : Dev nD) (n : Fin 12) : payCell c (6 + n.val) = recvCell (pr (pk n) c) n := by
  have := n.isLt
  unfold payCell; rw [if_neg (by omega), if_pos (by omega), Nat.add_sub_cancel_left]; simp only [Fin.ofNat_val_eq_self]

/-- A barrier payment leaves the rest owed. -/
theorem Or_sig (c : Dev nD) (k : Fin 6) (s : ℕ) (hs : s + k.val = 23) : Or c (s + 1) = Or c s + tallyAt (barCell (pr k c)) () 1 := by
  have e : 23 - s = k.val := by omega
  have := k.isLt
  show Or c s + tallyAt (payCell c (23 - s)) () (payAmt (23 - s)) = _
  rw [e, payCell_sig]; unfold payAmt; rw [if_pos k.isLt]
/-- An exit payment leaves the rest owed. -/
theorem Or_exit (c : Dev nD) (k : Fin 6) (s : ℕ) (hs : s + k.val = 5) : Or c (s + 1) = Or c s + tallyAt (exitCell (pr k c)) () 1 := by
  have e : 23 - s = 18 + k.val := by omega
  show Or c s + tallyAt (payCell c (23 - s)) () (payAmt (23 - s)) = _
  rw [e, payCell_exit]; unfold payAmt; rw [if_neg (by omega), if_neg (by omega)]
/-- A copy's payment leaves the rest owed. -/
theorem Or_copy (c : Dev nD) (n : Fin 12) (s : ℕ) (hs : s + n.val = 17) : Or c (s + 1) = Or c s + tallyAt (recvCell (pr (pk n) c) n) () N := by
  have e : 23 - s = 6 + n.val := by omega
  have := n.isLt
  show Or c s + tallyAt (payCell c (23 - s)) () (payAmt (23 - s)) = _
  rw [e, payCell_copy]; unfold payAmt; rw [if_neg (by omega), if_pos (by omega)]

/-! ## Signals -/

/-- A barrier signal to peer `k`: the slots that the peer fills are handed over. -/
theorem step_sig (c : Dev nD) (k : Fin 6) {dv : Dev nD} (hd : dv = pr k c) (s : ℕ) (hs : s + k.val = 23)
    {α : Type} {Q : α → sProp 𝕄} {k' : PUnit → Prog (TpuEff nD τ sig (Elt F) Λ₀ .tc) α} :
    iprop(records X K ∗ Ow c (s + 1) ∗ sigTok c k ∗ handP c k)
      ⊢ iprop((Ow c s -∗ wp frame (wpE (defs₀ (F := F)) 𝒱₀ (c : Thread nD τ) none) Set.univ (k' ⟨⟩) Q) -∗ wp frame (wpE (defs₀ (F := F)) 𝒱₀ (c : Thread nD τ) none) Set.univ (.op (.semSignal (dv, .tc) barS (1#32 : BitVec 32).toInt) k') Q) := by
  subst hd
  iintro ⟨#HR, HO, HT, HP⟩ Hk
  unfold Ow
  icases HO with ⟨%W, HO⟩
  ihave Hr := (records_bar X K (pr k c)) $$ HR
  icases Hr with ⟨#HI, #Hr⟩
  iapply (Rounds.wp_signal 𝒱₀ ER (Rd X) (c : Thread nD τ) none (dst := (pr k c : Thread nD τ)) (κ := K (pr k c, 0))
      (d := op k) (by rw [duties_bar]; exact Finset.mem_univ _) ((amount_bar X (pr k c) (op k)).trans (by decide)) () (Or c s) (Or_sig c k s hs))
    $$ [HO HT HP]
  · isplitr; · iexact HI
    isplitl [HO]; · iexact HO
    isplitl [HT]; · unfold sigTok; iexact HT
    isplitl [HP]
    · rw [payload_bar]; unfold barPay; rw [pr_op']; unfold handP; iexact HP
    iexact Hr
  iintro HO
  iapply Hk
  iexists W; iexact HO

/-- An exit signal to peer `k`. -/
theorem step_exit_sig (c : Dev nD) (k : Fin 6) {dv : Dev nD} (hd : dv = pr k c) (s : ℕ) (hs : s + k.val = 5)
    {α : Type} {Q : α → sProp 𝕄} {k' : PUnit → Prog (TpuEff nD τ sig (Elt F) Λ₀ .tc) α} :
    iprop(records X K ∗ Ow c (s + 1) ∗ exitTok c k)
      ⊢ iprop((Ow c s -∗ wp frame (wpE (defs₀ (F := F)) 𝒱₀ (c : Thread nD τ) none) Set.univ (k' ⟨⟩) Q) -∗ wp frame (wpE (defs₀ (F := F)) 𝒱₀ (c : Thread nD τ) none) Set.univ (.op (.semSignal (dv, .tc) exitS (1#32 : BitVec 32).toInt) k') Q) := by
  subst hd
  iintro ⟨#HR, HO, HT⟩ Hk
  unfold Ow
  icases HO with ⟨%W, HO⟩
  ihave Hr := (records_exit X K (pr k c)) $$ HR
  icases Hr with ⟨#HI, #Hr⟩
  iapply (Rounds.wp_signal 𝒱₀ ER (Rd X) (c : Thread nD τ) none (dst := (pr k c : Thread nD τ)) (κ := K (pr k c, 1))
      (d := op k) (by rw [duties_exit]; exact Finset.mem_univ _) ((amount_exit X (pr k c) (op k)).trans (by decide)) () (Or c s) (Or_exit c k s hs))
    $$ [HO HT]
  · isplitr; · iexact HI
    isplitl [HO]; · iexact HO
    isplitl [HT]; · unfold exitTok; iexact HT
    isplitr
    · rw [payload_exit]; iempintro
    iexact Hr
  iintro HO
  iapply Hk
  iexists W; iexact HO

/-! ## Waits -/

/-- The barrier's wait is below everything still owed then. -/
theorem lev_bar : ∀ t, 24 - 18 ≤ t → t < 24 → lvK (kd (.reg barS)) < if t < 6 then 1 else if t < 12 then 2 else if t < 18 then 3 else 4 := by
  have h : ∀ t, t < 24 → 24 - 18 ≤ t → lvK (kd (.reg barS)) < if t < 6 then 1 else if t < 12 then 2 else if t < 18 then 3 else 4 := by decide
  exact fun t h1 h2 => h t h2 h1

/-- The barrier wait: the twelve landing pieces, and the barrier cell closed. -/
theorem step_bar_wait (c : Dev nD)
    {α : Type} {Q : α → sProp 𝕄} {k' : PUnit → Prog (TpuEff nD τ sig (Elt F) Λ₀ .tc) α} :
    iprop(records X K ∗ levAts L lv ∗ Ow c 18 ∗ atPos ER (barCell c) 0 ∅ 0 ∗ cred (tallyAt (barCell c) () 6))
      ⊢ iprop(((Ow c 18 ∗ semVal (barCell c) 0 ∗ barPay c 0 ∗ barPay c 1 ∗ barPay c 2 ∗ barPay c 3 ∗ barPay c 4 ∗ barPay c 5) -∗ wp frame (wpE (defs₀ (F := F)) 𝒱₀ (c : Thread nD τ) none) Set.univ (k' ⟨⟩) Q)
        -∗ wp frame (wpE (defs₀ (F := F)) 𝒱₀ (c : Thread nD τ) none) Set.univ (.op (.semWait barS (6#32 : BitVec 32).toInt) k') Q) := by
  iintro ⟨#HR, #Hl, HO, Hat, Hc⟩ Hk
  unfold Ow
  icases HO with ⟨%W, HO⟩
  ihave Hr := (records_bar X K c) $$ HR
  icases Hr with ⟨#HI, #Hr⟩
  iapply (Rounds.wp_wait_rest_token 𝒱₀ ER (Rd X) (c : Thread nD τ) none (κ := K (c, 0))
      (wpE_semWait_eq 𝒱₀ (c : Thread nD τ) none Set.univ) (Set.mem_univ _) () (O := Or c 18) (W := W) (R := 0) (m := 0) (T := ∅)
      (by rw [expect_bar]; decide)) $$ [Hc HO Hat]
  · isplitr; · iexact HI
    isplitl [Hc]; · iexact Hc
    isplitl [HO]; · iexact HO
    isplitr
    · iapply (mayWait (F := F) c (.reg barS) 18 (by decide) lev_bar); iexact Hl
    iexact Hat
  iintro ⟨HO, Hat, -, Hpay⟩
  ihave Hp := (Entails.of_eq (rest_bar X c)) $$ Hpay
  imod (Rounds.cell_close ER (Rd X) (Set.mem_univ (K (c, 0))) (fun h => h) (R := 0 + 1) (duties_later X (barCell c))) $$ [Hat] with Hz
  · isplitr; · iexact HI
    iexact Hat
  iapply Hk
  isplitl [HO]; · iexists _; iexact HO
  isplitl [Hz]; · iexact Hz
  iexact Hp

/-- The exit wait. -/
theorem step_exit_wait (c : Dev nD)
    {α : Type} {Q : α → sProp 𝕄} {k' : PUnit → Prog (TpuEff nD τ sig (Elt F) Λ₀ .tc) α} :
    iprop(records X K ∗ Ow c 0 ∗ atPos ER (exitCell c) 0 ∅ 0 ∗ cred (tallyAt (exitCell c) () 6))
      ⊢ iprop(((Ow c 0 ∗ semVal (exitCell c) 0) -∗ wp frame (wpE (defs₀ (F := F)) 𝒱₀ (c : Thread nD τ) none) Set.univ (k' ⟨⟩) Q)
        -∗ wp frame (wpE (defs₀ (F := F)) 𝒱₀ (c : Thread nD τ) none) Set.univ (.op (.semWait exitS (6#32 : BitVec 32).toInt) k') Q) := by
  iintro ⟨#HR, HO, Hat, Hc⟩ Hk
  unfold Ow
  icases HO with ⟨%W, HO⟩
  ihave Hr := (records_exit X K c) $$ HR
  icases Hr with ⟨#HI, #Hr⟩
  iapply (Rounds.wp_wait_rest_token 𝒱₀ ER (Rd X) (c : Thread nD τ) none (κ := K (c, 1))
      (wpE_semWait_eq 𝒱₀ (c : Thread nD τ) none Set.univ) (Set.mem_univ _) () (O := Or c 0) (W := W) (R := 0) (m := 0) (T := ∅)
      (by rw [expect_exit]; decide)) $$ [Hc HO Hat]
  · isplitr; · iexact HI
    isplitl [Hc]; · iexact Hc
    isplitl [HO]; · iexact HO
    isplitr; · rw [show Or c 0 = 0 from rfl, MayWait_zero]; iempintro
    iexact Hat
  iintro ⟨HO, Hat, -, -⟩
  imod (Rounds.cell_close ER (Rd X) (Set.mem_univ (K (c, 1))) (fun h => h) (R := 0 + 1) (duties_later X (exitCell c))) $$ [Hat] with Hz
  · isplitr; · iexact HI
    iexact Hat
  iapply Hk
  isplitl [HO]; · iexists _; iexact HO
  iexact Hz

/-- The wait for receive `n`, at `s` payments left: the landing piece, filled, and the cell closed. -/
theorem step_recv (c : Dev nD) (n : Fin 12) {sm : DmaSem sig} (hsm : sm = recvS n) (s : ℕ) (hs : s ≤ 24)
    (hlev : ∀ t, t < 24 → 24 - s ≤ t → lvK (14 + n.val) < if t < 6 then 1 else if t < 12 then 2 else if t < 18 then 3 else 4)
    {src : Memref sig .tc .vmem S8x512 .bf16} {dst : Memref sig .tc .vmem S8x512 .bf16} (hdst : dst = pc (sl (pk n)) (hf n))
    {h1 : src.view.WordExact} {h2 : dst.view.WordExact}
    {α : Type} {Q : α → sProp 𝕄} {k' : PUnit → Prog (TpuEff nD τ sig (Elt F) Λ₀ .tc) α} :
    iprop(records X K ∗ levAts L lv ∗ Ow c s ∗ rcv0 c n)
      ⊢ iprop(((Ow c s ∗ rcv1 c n ∗ recvPay X c n) -∗ wp frame (wpE (defs₀ (F := F)) 𝒱₀ (c : Thread nD τ) none) Set.univ (k' ⟨⟩) Q)
        -∗ wp frame (wpE (defs₀ (F := F)) 𝒱₀ (c : Thread nD τ) none) Set.univ (.op (.waitDma2 sm src dst h1 h2) k') Q) := by
  subst hsm hdst
  iintro ⟨#HR, #Hl, HO, Hrc⟩ Hk
  unfold Ow rcv0 rcv1
  icases HO with ⟨%W, HO⟩
  icases Hrc with ⟨Hat, Hc⟩
  ihave Hr := (records_recv X K c n) $$ HR
  icases Hr with ⟨#HI, #Hr⟩
  iapply (Rounds.wp_wait_rest_token 𝒱₀ ER (Rd X) (c : Thread nD τ) none (κ := K (c, rk n))
      (wpE_waitDma2_eq 𝒱₀ (c : Thread nD τ) none Set.univ) (Set.mem_univ _) () (O := Or c s) (W := W) (R := 0) (m := 0) (T := ∅)
      (by rw [Nat.zero_add, expect_recv])) $$ [Hc HO Hat]
  · isplitr; · iexact HI
    isplitl [Hc]; · iexact Hc
    isplitl [HO]; · iexact HO
    isplitr
    · iapply (mayWait (F := F) c (.dma (recvS n)) s hs (fun t h1 h2 => by rw [kd_recv]; exact hlev t h2 h1)); iexact Hl
    iexact Hat
  iintro ⟨HO, Hat, -, Hpay⟩
  ihave Hp := (Entails.of_eq (rest_recv X c n)) $$ Hpay
  imod (Rounds.cell_close ER (Rd X) (Set.mem_univ (K (c, rk n))) (fun h => h) (R := 0 + 1) (duties_later X (recvCell c n))) $$ [Hat] with Hz
  · isplitr; · iexact HI
    iexact Hat
  iapply Hk
  isplitl [HO]; · iexists _; iexact HO
  isplitl [Hz]; · iexact Hz
  iexact Hp

/-- The wait for send `n`, nothing owed: the lent share, and the cell closed. -/
theorem step_send_wait (c : Dev nD) (n : Fin 12) {sm : DmaSem sig} (hsm : sm = sendS n)
    {src : Memref sig .tc .vmem S8x512 .bf16} {dst : Memref sig .tc .vmem S8x512 .bf16}
    (hdst : dst = pc (srcS n) (hf n)) {h1 : src.view.WordExact} {h2 : dst.view.WordExact}
    {α : Type} {Q : α → sProp 𝕄} {k' : PUnit → Prog (TpuEff nD τ sig (Elt F) Λ₀ .tc) α} :
    iprop(records X K ∗ Ow c 0 ∗ snd1 c n)
      ⊢ iprop(((Ow c 0 ∗ snd2 c n ∗ sendPay X c n) -∗ wp frame (wpE (defs₀ (F := F)) 𝒱₀ (c : Thread nD τ) none) Set.univ (k' ⟨⟩) Q)
        -∗ wp frame (wpE (defs₀ (F := F)) 𝒱₀ (c : Thread nD τ) none) Set.univ (.op (.waitDma2 sm src dst h1 h2) k') Q) := by
  subst hsm hdst
  iintro ⟨#HR, HO, Hrc⟩ Hk
  unfold Ow snd1 snd2
  icases HO with ⟨%W, HO⟩
  icases Hrc with ⟨Hat, Hc⟩
  ihave Hr := (records_send X K c n) $$ HR
  icases Hr with ⟨#HI, #Hr⟩
  iapply (Rounds.wp_wait_rest_token 𝒱₀ ER (Rd X) (c : Thread nD τ) none (κ := K (c, sk n))
      (wpE_waitDma2_eq 𝒱₀ (c : Thread nD τ) none Set.univ) (Set.mem_univ _) () (O := Or c 0) (W := W) (R := 0) (m := 0) (T := ∅)
      (by rw [Nat.zero_add, expect_send])) $$ [Hc HO Hat]
  · isplitr; · iexact HI
    isplitl [Hc]; · iexact Hc
    isplitl [HO]; · iexact HO
    isplitr; · rw [show Or c 0 = 0 from rfl, MayWait_zero]; iempintro
    iexact Hat
  iintro ⟨HO, Hat, -, Hpay⟩
  ihave Hp := (Entails.of_eq (rest_send X c n)) $$ Hpay
  imod (Rounds.cell_close ER (Rd X) (Set.mem_univ (K (c, sk n))) (fun h => h) (R := 0 + 1) (duties_later X (sendCell c n))) $$ [Hat] with Hz
  · isplitr; · iexact HI
    iexact Hat
  iapply Hk
  isplitl [HO]; · iexists _; iexact HO
  isplitl [Hz]; · iexact Hz
  iexact Hp

/-! ## The copy -/

/-- A piece's amount at a DMA semaphore. -/
theorem amount_pc (s : Fin 8) (h : Fin 2) (q : DmaSem sig) : (pc s h).view.amount (.dma q) = N := rfl

/-- Copy `n` is started: its source share and the peer's landing piece go in. -/
theorem step_copy (c : Dev nD) (n : Fin 12) {dv : Dev nD} (hd : dv = pr (pk n) c) (s : ℕ) (hs : s + n.val = 17)
    {src dst : Memref sig .tc .vmem S8x512 .bf16} (hsrc : src = pc (srcS n) (hf n)) (hdst : dst = pc (sl (pk n)) (hf n))
    {sS rS : DmaSem sig} (hsS : sS = sendS n) (hrS : rS = recvS n)
    {hsc : (dst : Memref sig (Dev.tc dv : Thread nD τ).2.kind .vmem S8x512 .bf16).view.ref.isScScratch = false}
    {h1 : src.view.WordExact} {h2 : dst.view.WordExact}
    {h3 : DmaTarget.Typed .vmem (.dma rS) (.remote (Dev.tc dv : Thread nD τ) (dst : Memref sig (Dev.tc dv : Thread nD τ).2.kind .vmem S8x512 .bf16) (.dma sS) hsc)}
    {α : Type} {Q : α → sProp 𝕄} {k' : PUnit → Prog (TpuEff nD τ sig (Elt F) Λ₀ .tc) α} :
    iprop(records X K ∗ Ow c (s + 1) ∗ sendPay X c n ∗ dstP c n ∗ copyTok c n ∗ snd0 c n)
      ⊢ iprop(((Ow c s ∗ snd1 c n) -∗ wp frame (wpE (defs₀ (F := F)) 𝒱₀ (c : Thread nD τ) none) Set.univ (k' ⟨⟩) Q)
        -∗ wp frame (wpE (defs₀ (F := F)) 𝒱₀ (c : Thread nD τ) none) Set.univ
            (.op (.enqueueDma src (.remote (Dev.tc dv : Thread nD τ) dst (.dma sS) hsc) (.dma rS) h1 h2 h3) k') Q) := by
  subst hd hsrc hdst hsS hrS
  iintro ⟨#HR, HO, HS, HD, HT, Hat⟩ Hk
  unfold Ow copyTok dstP snd0 snd1
  icases HO with ⟨%W, HO⟩
  icases HT with ⟨HT1, HT2⟩
  icases HD with ⟨%fd, HD⟩
  ihave Hr := (records_send X K c n) $$ HR
  icases Hr with ⟨#HI1, #Hr1⟩
  ihave Hr := (records_recv X K (pr (pk n) c) n) $$ HR
  icases Hr with ⟨#HI2, #Hr2⟩
  iapply (Rounds.wp_send_pointsTo 𝒱₀ ER (Rd X) (c : Thread nD τ) none (c' := (pr (pk n) c : Thread nD τ)) (src := pc (srcS n) (hf n)) (dst := pc (sl (pk n)) (hf n)) (κ₁ := K (c, sk n)) (κ₂ := K (pr (pk n) c, rk n))
    (r₁ := 0) (r₂ := 0) (d₁ := 0) (d₂ := 0) (fd := fd) (fs := scr X c) (q := sq n)
    (by rw [duties_send]; exact Finset.mem_singleton_self _) (by rw [duties_recv]; exact Finset.mem_singleton_self _)
    () () N (amount_pc _ _ _) (amount_send X c n 0) (amount_recv X (pr (pk n) c) n 0) (Or c s) (Or_copy c n s hs) (W := W)
    (by rw [payload_send]; unfold sendPay P; rw [← pc_set])
    (by rw [payload_recv]; unfold recvPay P; rw [← pc_set]; exact Entails.of_eq (pointsTo_congr (send_agrees X n c fd)))) $$ [HO HS HD HT1 HT2]
  · isplitr; · iexact HI1
    isplitr; · iexact HI2
    isplitl [HS]; · unfold sendPay P; rw [← pc_set]; iexact HS
    isplitl [HD]; · unfold P; rw [← pc_set]; iexact HD
    isplitl [HO]; · iexact HO
    isplitl [HT1]; · iexact HT1
    isplitr; · iexact Hr1
    isplitl [HT2]; · iexact HT2
    iexact Hr2
  iintro ⟨Hc, HO⟩
  iapply Hk
  isplitl [HO]; · iexists W; iexact HO
  isplitl [Hat] <;> iassumption

end Cert.Talk

end
-- ==== Proof.Names.lean ====
/-
# Names and memory steps

The devices, pieces and semaphores that the program names, as the protocol's; and loads and stores of the scratch buffer.
-/
module

public import proofs.«01_k».proof.Proof.Steps

@[expose] public section

set_option maxRecDepth 16384

noncomputable section

namespace Cert.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Devices: the copies and signals go to the six peers -/

/-- The device that the program names here is a peer. -/
theorem dv1 (c : Dev nD) : (⟨k0_dev1 c, k0_dev1_lt c⟩ : Dev nD) = pr 0 c := by revert c; decide +kernel
/-- The device that the program names here is a peer. -/
theorem dv2 (c : Dev nD) : (⟨k0_dev2 c, k0_dev2_lt c⟩ : Dev nD) = pr 1 c := by revert c; decide +kernel
/-- The device that the program names here is a peer. -/
theorem dv3 (c : Dev nD) : (⟨k0_dev3 c, k0_dev3_lt c⟩ : Dev nD) = pr 2 c := by revert c; decide +kernel
/-- The device that the program names here is a peer. -/
theorem dv4 (c : Dev nD) : (⟨k0_dev4 c, k0_dev4_lt c⟩ : Dev nD) = pr 3 c := by revert c; decide +kernel
/-- The device that the program names here is a peer. -/
theorem dv5 (c : Dev nD) : (⟨k0_dev5 c, k0_dev5_lt c⟩ : Dev nD) = pr 4 c := by revert c; decide +kernel
/-- The device that the program names here is a peer. -/
theorem dv6 (c : Dev nD) : (⟨k0_dev6 c, k0_dev6_lt c⟩ : Dev nD) = pr 5 c := by revert c; decide +kernel
/-- The device that the program names here is a peer. -/
theorem dv7 (c : Dev nD) : (⟨k0_dev7 c, k0_dev7_lt c⟩ : Dev nD) = pr 0 c := by revert c; decide +kernel
/-- The device that the program names here is a peer. -/
theorem dv8 (c : Dev nD) : (⟨k0_dev8 c, k0_dev8_lt c⟩ : Dev nD) = pr 1 c := by revert c; decide +kernel
/-- The device that the program names here is a peer. -/
theorem dv9 (c : Dev nD) : (⟨k0_dev9 c, k0_dev9_lt c⟩ : Dev nD) = pr 2 c := by revert c; decide +kernel
/-- The device that the program names here is a peer. -/
theorem dv10 (c : Dev nD) : (⟨k0_dev10 c, k0_dev10_lt c⟩ : Dev nD) = pr 0 c := by revert c; decide +kernel
/-- The device that the program names here is a peer. -/
theorem dv11 (c : Dev nD) : (⟨k0_dev11 c, k0_dev11_lt c⟩ : Dev nD) = pr 1 c := by revert c; decide +kernel
/-- The device that the program names here is a peer. -/
theorem dv12 (c : Dev nD) : (⟨k0_dev12 c, k0_dev12_lt c⟩ : Dev nD) = pr 2 c := by revert c; decide +kernel
/-- The device that the program names here is a peer. -/
theorem dv13 (c : Dev nD) : (⟨k0_dev13 c, k0_dev13_lt c⟩ : Dev nD) = pr 3 c := by revert c; decide +kernel
/-- The device that the program names here is a peer. -/
theorem dv14 (c : Dev nD) : (⟨k0_dev14 c, k0_dev14_lt c⟩ : Dev nD) = pr 4 c := by revert c; decide +kernel
/-- The device that the program names here is a peer. -/
theorem dv15 (c : Dev nD) : (⟨k0_dev15 c, k0_dev15_lt c⟩ : Dev nD) = pr 5 c := by revert c; decide +kernel
/-- The device that the program names here is a peer. -/
theorem dv16 (c : Dev nD) : (⟨k0_dev16 c, k0_dev16_lt c⟩ : Dev nD) = pr 3 c := by revert c; decide +kernel
/-- The device that the program names here is a peer. -/
theorem dv17 (c : Dev nD) : (⟨k0_dev17 c, k0_dev17_lt c⟩ : Dev nD) = pr 4 c := by revert c; decide +kernel
/-- The device that the program names here is a peer. -/
theorem dv18 (c : Dev nD) : (⟨k0_dev18 c, k0_dev18_lt c⟩ : Dev nD) = pr 5 c := by revert c; decide +kernel
/-- The device that the program names here is a peer. -/
theorem dv19 (c : Dev nD) : (⟨k0_dev19 c, k0_dev19_lt c⟩ : Dev nD) = pr 0 c := by revert c; decide +kernel
/-- The device that the program names here is a peer. -/
theorem dv20 (c : Dev nD) : (⟨k0_dev20 c, k0_dev20_lt c⟩ : Dev nD) = pr 1 c := by revert c; decide +kernel
/-- The device that the program names here is a peer. -/
theorem dv21 (c : Dev nD) : (⟨k0_dev21 c, k0_dev21_lt c⟩ : Dev nD) = pr 2 c := by revert c; decide +kernel
/-- The device that the program names here is a peer. -/
theorem dv22 (c : Dev nD) : (⟨k0_dev22 c, k0_dev22_lt c⟩ : Dev nD) = pr 3 c := by revert c; decide +kernel
/-- The device that the program names here is a peer. -/
theorem dv23 (c : Dev nD) : (⟨k0_dev23 c, k0_dev23_lt c⟩ : Dev nD) = pr 4 c := by revert c; decide +kernel
/-- The device that the program names here is a peer. -/
theorem dv24 (c : Dev nD) : (⟨k0_dev24 c, k0_dev24_lt c⟩ : Dev nD) = pr 5 c := by revert c; decide +kernel

/-! ## Pieces of the scratch buffer -/

/-- The slice that the program names here is a piece. -/
theorem pcE_0_0 : ((Memref.whole cc0_scratch0 : Memref sig .tc .vmem S8x8x1024 .bf16).slice (Rect.unit (s := S8x8x1024) ![0, 0, 0] S1x8x512.size inb_S8x8x1024_S1x8x512_0_0_0) (fun _ => rfl)).squeeze S8x512 squeezes_S1x8x512_S8x512 = pc 0 0 := rfl
/-- The slice that the program names here is a piece. -/
theorem pcE_0_1 : ((Memref.whole cc0_scratch0 : Memref sig .tc .vmem S8x8x1024 .bf16).slice (Rect.unit (s := S8x8x1024) ![0, 0, 512] S1x8x512.size inb_S8x8x1024_S1x8x512_0_0_512) (fun _ => rfl)).squeeze S8x512 squeezes_S1x8x512_S8x512 = pc 0 1 := rfl
/-- The slice that the program names here is a piece. -/
theorem pcE_1_0 : ((Memref.whole cc0_scratch0 : Memref sig .tc .vmem S8x8x1024 .bf16).slice (Rect.unit (s := S8x8x1024) ![1, 0, 0] S1x8x512.size inb_S8x8x1024_S1x8x512_1_0_0) (fun _ => rfl)).squeeze S8x512 squeezes_S1x8x512_S8x512 = pc 1 0 := rfl
/-- The slice that the program names here is a piece. -/
theorem pcE_1_1 : ((Memref.whole cc0_scratch0 : Memref sig .tc .vmem S8x8x1024 .bf16).slice (Rect.unit (s := S8x8x1024) ![1, 0, 512] S1x8x512.size inb_S8x8x1024_S1x8x512_1_0_512) (fun _ => rfl)).squeeze S8x512 squeezes_S1x8x512_S8x512 = pc 1 1 := rfl
/-- The slice that the program names here is a piece. -/
theorem pcE_2_0 : ((Memref.whole cc0_scratch0 : Memref sig .tc .vmem S8x8x1024 .bf16).slice (Rect.unit (s := S8x8x1024) ![2, 0, 0] S1x8x512.size inb_S8x8x1024_S1x8x512_2_0_0) (fun _ => rfl)).squeeze S8x512 squeezes_S1x8x512_S8x512 = pc 2 0 := rfl
/-- The slice that the program names here is a piece. -/
theorem pcE_2_1 : ((Memref.whole cc0_scratch0 : Memref sig .tc .vmem S8x8x1024 .bf16).slice (Rect.unit (s := S8x8x1024) ![2, 0, 512] S1x8x512.size inb_S8x8x1024_S1x8x512_2_0_512) (fun _ => rfl)).squeeze S8x512 squeezes_S1x8x512_S8x512 = pc 2 1 := rfl
/-- The slice that the program names here is a piece. -/
theorem pcE_3_0 : ((Memref.whole cc0_scratch0 : Memref sig .tc .vmem S8x8x1024 .bf16).slice (Rect.unit (s := S8x8x1024) ![3, 0, 0] S1x8x512.size inb_S8x8x1024_S1x8x512_3_0_0) (fun _ => rfl)).squeeze S8x512 squeezes_S1x8x512_S8x512 = pc 3 0 := rfl
/-- The slice that the program names here is a piece. -/
theorem pcE_3_1 : ((Memref.whole cc0_scratch0 : Memref sig .tc .vmem S8x8x1024 .bf16).slice (Rect.unit (s := S8x8x1024) ![3, 0, 512] S1x8x512.size inb_S8x8x1024_S1x8x512_3_0_512) (fun _ => rfl)).squeeze S8x512 squeezes_S1x8x512_S8x512 = pc 3 1 := rfl
/-- The slice that the program names here is a piece. -/
theorem pcE_4_0 : ((Memref.whole cc0_scratch0 : Memref sig .tc .vmem S8x8x1024 .bf16).slice (Rect.unit (s := S8x8x1024) ![4, 0, 0] S1x8x512.size inb_S8x8x1024_S1x8x512_4_0_0) (fun _ => rfl)).squeeze S8x512 squeezes_S1x8x512_S8x512 = pc 4 0 := rfl
/-- The slice that the program names here is a piece. -/
theorem pcE_4_1 : ((Memref.whole cc0_scratch0 : Memref sig .tc .vmem S8x8x1024 .bf16).slice (Rect.unit (s := S8x8x1024) ![4, 0, 512] S1x8x512.size inb_S8x8x1024_S1x8x512_4_0_512) (fun _ => rfl)).squeeze S8x512 squeezes_S1x8x512_S8x512 = pc 4 1 := rfl
/-- The slice that the program names here is a piece. -/
theorem pcE_5_0 : ((Memref.whole cc0_scratch0 : Memref sig .tc .vmem S8x8x1024 .bf16).slice (Rect.unit (s := S8x8x1024) ![5, 0, 0] S1x8x512.size inb_S8x8x1024_S1x8x512_5_0_0) (fun _ => rfl)).squeeze S8x512 squeezes_S1x8x512_S8x512 = pc 5 0 := rfl
/-- The slice that the program names here is a piece. -/
theorem pcE_5_1 : ((Memref.whole cc0_scratch0 : Memref sig .tc .vmem S8x8x1024 .bf16).slice (Rect.unit (s := S8x8x1024) ![5, 0, 512] S1x8x512.size inb_S8x8x1024_S1x8x512_5_0_512) (fun _ => rfl)).squeeze S8x512 squeezes_S1x8x512_S8x512 = pc 5 1 := rfl
/-- The slice that the program names here is a piece. -/
theorem pcE_6_0 : ((Memref.whole cc0_scratch0 : Memref sig .tc .vmem S8x8x1024 .bf16).slice (Rect.unit (s := S8x8x1024) ![6, 0, 0] S1x8x512.size inb_S8x8x1024_S1x8x512_6_0_0) (fun _ => rfl)).squeeze S8x512 squeezes_S1x8x512_S8x512 = pc 6 0 := rfl
/-- The slice that the program names here is a piece. -/
theorem pcE_6_1 : ((Memref.whole cc0_scratch0 : Memref sig .tc .vmem S8x8x1024 .bf16).slice (Rect.unit (s := S8x8x1024) ![6, 0, 512] S1x8x512.size inb_S8x8x1024_S1x8x512_6_0_512) (fun _ => rfl)).squeeze S8x512 squeezes_S1x8x512_S8x512 = pc 6 1 := rfl
/-- The slice that the program names here is a piece. -/
theorem pcE_7_0 : ((Memref.whole cc0_scratch0 : Memref sig .tc .vmem S8x8x1024 .bf16).slice (Rect.unit (s := S8x8x1024) ![7, 0, 0] S1x8x512.size inb_S8x8x1024_S1x8x512_7_0_0) (fun _ => rfl)).squeeze S8x512 squeezes_S1x8x512_S8x512 = pc 7 0 := rfl
/-- The slice that the program names here is a piece. -/
theorem pcE_7_1 : ((Memref.whole cc0_scratch0 : Memref sig .tc .vmem S8x8x1024 .bf16).slice (Rect.unit (s := S8x8x1024) ![7, 0, 512] S1x8x512.size inb_S8x8x1024_S1x8x512_7_0_512) (fun _ => rfl)).squeeze S8x512 squeezes_S1x8x512_S8x512 = pc 7 1 := rfl

/-! ## Semaphores -/

/-- The send semaphore that the program names. -/
theorem sendE_0 : ((cc0_scratch1.slice (Rect.unit (s := S12) ![0] S1.size inb_S12_S1_0)).squeeze S_ squeezes_S1_S_ : DmaSems sig S_).sem = sendS 0 := by decide
/-- The receive semaphore that the program names. -/
theorem recvE_0 : ((cc0_scratch2.slice (Rect.unit (s := S12) ![0] S1.size inb_S12_S1_0)).squeeze S_ squeezes_S1_S_ : DmaSems sig S_).sem = recvS 0 := by decide
/-- The send semaphore that the program names. -/
theorem sendE_1 : ((cc0_scratch1.slice (Rect.unit (s := S12) ![1] S1.size inb_S12_S1_1)).squeeze S_ squeezes_S1_S_ : DmaSems sig S_).sem = sendS 1 := by decide
/-- The receive semaphore that the program names. -/
theorem recvE_1 : ((cc0_scratch2.slice (Rect.unit (s := S12) ![1] S1.size inb_S12_S1_1)).squeeze S_ squeezes_S1_S_ : DmaSems sig S_).sem = recvS 1 := by decide
/-- The send semaphore that the program names. -/
theorem sendE_2 : ((cc0_scratch1.slice (Rect.unit (s := S12) ![2] S1.size inb_S12_S1_2)).squeeze S_ squeezes_S1_S_ : DmaSems sig S_).sem = sendS 2 := by decide
/-- The receive semaphore that the program names. -/
theorem recvE_2 : ((cc0_scratch2.slice (Rect.unit (s := S12) ![2] S1.size inb_S12_S1_2)).squeeze S_ squeezes_S1_S_ : DmaSems sig S_).sem = recvS 2 := by decide
/-- The send semaphore that the program names. -/
theorem sendE_3 : ((cc0_scratch1.slice (Rect.unit (s := S12) ![3] S1.size inb_S12_S1_3)).squeeze S_ squeezes_S1_S_ : DmaSems sig S_).sem = sendS 3 := by decide
/-- The receive semaphore that the program names. -/
theorem recvE_3 : ((cc0_scratch2.slice (Rect.unit (s := S12) ![3] S1.size inb_S12_S1_3)).squeeze S_ squeezes_S1_S_ : DmaSems sig S_).sem = recvS 3 := by decide
/-- The send semaphore that the program names. -/
theorem sendE_4 : ((cc0_scratch1.slice (Rect.unit (s := S12) ![4] S1.size inb_S12_S1_4)).squeeze S_ squeezes_S1_S_ : DmaSems sig S_).sem = sendS 4 := by decide
/-- The receive semaphore that the program names. -/
theorem recvE_4 : ((cc0_scratch2.slice (Rect.unit (s := S12) ![4] S1.size inb_S12_S1_4)).squeeze S_ squeezes_S1_S_ : DmaSems sig S_).sem = recvS 4 := by decide
/-- The send semaphore that the program names. -/
theorem sendE_5 : ((cc0_scratch1.slice (Rect.unit (s := S12) ![5] S1.size inb_S12_S1_5)).squeeze S_ squeezes_S1_S_ : DmaSems sig S_).sem = sendS 5 := by decide
/-- The receive semaphore that the program names. -/
theorem recvE_5 : ((cc0_scratch2.slice (Rect.unit (s := S12) ![5] S1.size inb_S12_S1_5)).squeeze S_ squeezes_S1_S_ : DmaSems sig S_).sem = recvS 5 := by decide
/-- The send semaphore that the program names. -/
theorem sendE_6 : ((cc0_scratch1.slice (Rect.unit (s := S12) ![6] S1.size inb_S12_S1_6)).squeeze S_ squeezes_S1_S_ : DmaSems sig S_).sem = sendS 6 := by decide
/-- The receive semaphore that the program names. -/
theorem recvE_6 : ((cc0_scratch2.slice (Rect.unit (s := S12) ![6] S1.size inb_S12_S1_6)).squeeze S_ squeezes_S1_S_ : DmaSems sig S_).sem = recvS 6 := by decide
/-- The send semaphore that the program names. -/
theorem sendE_7 : ((cc0_scratch1.slice (Rect.unit (s := S12) ![7] S1.size inb_S12_S1_7)).squeeze S_ squeezes_S1_S_ : DmaSems sig S_).sem = sendS 7 := by decide
/-- The receive semaphore that the program names. -/
theorem recvE_7 : ((cc0_scratch2.slice (Rect.unit (s := S12) ![7] S1.size inb_S12_S1_7)).squeeze S_ squeezes_S1_S_ : DmaSems sig S_).sem = recvS 7 := by decide
/-- The send semaphore that the program names. -/
theorem sendE_8 : ((cc0_scratch1.slice (Rect.unit (s := S12) ![8] S1.size inb_S12_S1_8)).squeeze S_ squeezes_S1_S_ : DmaSems sig S_).sem = sendS 8 := by decide
/-- The receive semaphore that the program names. -/
theorem recvE_8 : ((cc0_scratch2.slice (Rect.unit (s := S12) ![8] S1.size inb_S12_S1_8)).squeeze S_ squeezes_S1_S_ : DmaSems sig S_).sem = recvS 8 := by decide
/-- The send semaphore that the program names. -/
theorem sendE_9 : ((cc0_scratch1.slice (Rect.unit (s := S12) ![9] S1.size inb_S12_S1_9)).squeeze S_ squeezes_S1_S_ : DmaSems sig S_).sem = sendS 9 := by decide
/-- The receive semaphore that the program names. -/
theorem recvE_9 : ((cc0_scratch2.slice (Rect.unit (s := S12) ![9] S1.size inb_S12_S1_9)).squeeze S_ squeezes_S1_S_ : DmaSems sig S_).sem = recvS 9 := by decide
/-- The send semaphore that the program names. -/
theorem sendE_10 : ((cc0_scratch1.slice (Rect.unit (s := S12) ![10] S1.size inb_S12_S1_10)).squeeze S_ squeezes_S1_S_ : DmaSems sig S_).sem = sendS 10 := by decide
/-- The receive semaphore that the program names. -/
theorem recvE_10 : ((cc0_scratch2.slice (Rect.unit (s := S12) ![10] S1.size inb_S12_S1_10)).squeeze S_ squeezes_S1_S_ : DmaSems sig S_).sem = recvS 10 := by decide
/-- The send semaphore that the program names. -/
theorem sendE_11 : ((cc0_scratch1.slice (Rect.unit (s := S12) ![11] S1.size inb_S12_S1_11)).squeeze S_ squeezes_S1_S_ : DmaSems sig S_).sem = sendS 11 := by decide
/-- The receive semaphore that the program names. -/
theorem recvE_11 : ((cc0_scratch2.slice (Rect.unit (s := S12) ![11] S1.size inb_S12_S1_11)).squeeze S_ squeezes_S1_S_ : DmaSems sig S_).sem = recvS 11 := by decide

/-! ## Loads and stores of the scratch buffer -/

/-- A load within a band, at any share. -/
theorem step_ld (c : Dev nD) {a b h : ℕ} {q : PosShare TreeShare} {f : ScTy F} {r : LoadRect S8x8x1024} {hl : scM.view.LoadsAt r}
    {α : Type} {Q : α → sProp 𝕄} {k : (r.shape.Idx → Elt F .bf16) → Prog (TpuEff nD τ sig (Elt F) Λ₀ .tc) α}
    (hr : scM.view.setOn r.set = band a b h) :
    (P c a b h q f : sProp 𝕄) ⊢ iprop((P c a b h q f -∗ wp frame (wpE (defs₀ (F := F)) 𝒱₀ (c : Thread nD τ) none) Set.univ (k (scM.view.readAt (Elt F) r f)) Q)
      -∗ wp frame (wpE (defs₀ (F := F)) 𝒱₀ (c : Thread nD τ) none) Set.univ (.op (.load scM r hl) k) Q) := by
  unfold P
  exact wp_load 𝒱₀ (c : Thread nD τ) none Set.univ (m := scM) (by rw [hr])

/-- A store onto one piece, of what the buffer is to hold there. -/
theorem step_st (X : Dev nD → XTy F) (c : Dev nD) {a h : ℕ} {f : ScTy F} {r : Rect S8x8x1024} {w : r.shape.Idx → Elt F .bf16}
    {hx : (scM.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α}
    (hr : (scM.access r : View sig .tc _ _ _).setOn Finset.univ = band a (a + 1) h)
    (hw : ∀ i ∈ band a (a + 1) h, (scM.access r : View sig .tc _ _ _).write (Elt F) f w Finset.univ i = scr X c i) :
    (P c a (a + 1) h fullShare f : sProp 𝕄) ⊢ iprop((P c a (a + 1) h fullShare (scr X c)
        -∗ wp frame (wpE (defs₀ (F := F)) 𝒱₀ (c : Thread nD τ) none) Set.univ (k ⟨⟩) Q)
      -∗ wp frame (wpE (defs₀ (F := F)) 𝒱₀ (c : Thread nD τ) none) Set.univ (.op (.store scM r w Finset.univ hx hm) k) Q) := by
  rw [← P_congr c a (a + 1) h fullShare ((scM.access r : View sig .tc _ _ _).write (Elt F) f w Finset.univ) (scr X c) hw]
  unfold P
  exact wp_store 𝒱₀ (c : Thread nD τ) none Set.univ (m := scM) (r := r) (Mk := Finset.univ) (by rw [hr])

/-- The plane's four slots at the share that stays, and back. -/
theorem plane_open (c : Dev nD) (h : ℕ) (g : ScTy F) :
    iprop(P c 0 1 h keep g ∗ P c 1 4 h fullShare g) ⊢ (iprop(P c 0 4 h keep g ∗ (P c 0 4 h keep g -∗ (P c 0 1 h keep g ∗ P c 1 4 h fullShare g))) : sProp 𝕄) := by
  iintro ⟨H0, H1⟩
  ihave H1 := (P_lend c 1 4 h g).1 $$ H1
  icases H1 with ⟨⟨Ha, Hb⟩, Hc, Hd⟩
  isplitl [H0 Hd]
  · iapply (P_join c keep g (Nat.zero_le 1) (by decide : 1 ≤ 4)).2
    isplitl [H0] <;> iassumption
  iintro H
  ihave H := (P_join c keep g (Nat.zero_le 1) (by decide : 1 ≤ 4)).1 $$ H
  icases H with ⟨H0, Hd⟩
  isplitl [H0]; · iexact H0
  iapply (P_lend c 1 4 h g).2
  isplitl [Ha Hb]
  · isplitl [Ha] <;> iassumption
  isplitl [Hc] <;> iassumption

/-- The three landing pieces of a half, as one band. -/
theorem join3 (c : Dev nD) (a h : ℕ) (g : ScTy F) :
    (P c a (a + 3) h fullShare g : sProp 𝕄) ⊣⊢ iprop(P c a (a + 1) h fullShare g ∗ P c (a + 1) (a + 1 + 1) h fullShare g ∗ P c (a + 2) (a + 2 + 1) h fullShare g) :=
  (P_join c fullShare g (Nat.le_add_right a 1) (by omega : a + 1 ≤ a + 3)).trans
    (sep_congr ⟨BI.Entails.refl _, BI.Entails.refl _⟩ (P_join c fullShare g (by omega : a + 1 ≤ a + 2) (by omega : a + 2 ≤ a + 3)))

/-! ## What is lent, handed out and received, by copy number -/

section Groups

variable (X : Dev nD → XTy F) (c : Dev nD)

/-- A stored piece splits into the three shares that its copies borrow and the share that is kept. -/
theorem lend_0 : (P c 0 1 0 fullShare (scr X c) : sProp 𝕄) ⊣⊢ iprop((sendPay X c 0 ∗ sendPay X c 1) ∗ sendPay X c 2 ∗ P c 0 1 0 keep (scr X c)) := P_lend c 0 1 0 (scr X c)
/-- A stored piece splits into the three shares that its copies borrow and the share that is kept. -/
theorem lend_1 : (P c 0 1 1 fullShare (scr X c) : sProp 𝕄) ⊣⊢ iprop((sendPay X c 3 ∗ sendPay X c 4) ∗ sendPay X c 5 ∗ P c 0 1 1 keep (scr X c)) := P_lend c 0 1 1 (scr X c)
/-- A stored piece splits into the three shares that its copies borrow and the share that is kept. -/
theorem lend_2 : (P c 4 5 0 fullShare (scr X c) : sProp 𝕄) ⊣⊢ iprop((sendPay X c 6 ∗ sendPay X c 7) ∗ sendPay X c 8 ∗ P c 4 5 0 keep (scr X c)) := P_lend c 4 5 0 (scr X c)
/-- A stored piece splits into the three shares that its copies borrow and the share that is kept. -/
theorem lend_3 : (P c 4 5 1 fullShare (scr X c) : sProp 𝕄) ⊣⊢ iprop((sendPay X c 9 ∗ sendPay X c 10) ∗ sendPay X c 11 ∗ P c 4 5 1 keep (scr X c)) := P_lend c 4 5 1 (scr X c)

/-- The three landed pieces of a half join. -/
theorem got_0 : (P c 1 4 0 fullShare (scr X c) : sProp 𝕄) ⊣⊢ iprop(recvPay X c 0 ∗ recvPay X c 1 ∗ recvPay X c 2) := join3 c 1 0 (scr X c)
/-- The three landed pieces of a half join. -/
theorem got_1 : (P c 1 4 1 fullShare (scr X c) : sProp 𝕄) ⊣⊢ iprop(recvPay X c 3 ∗ recvPay X c 4 ∗ recvPay X c 5) := join3 c 1 1 (scr X c)
/-- The three landed pieces of a half join. -/
theorem got_2 : (P c 5 8 0 fullShare (scr X c) : sProp 𝕄) ⊣⊢ iprop(recvPay X c 6 ∗ recvPay X c 7 ∗ recvPay X c 8) := join3 c 5 0 (scr X c)
/-- The three landed pieces of a half join. -/
theorem got_3 : (P c 5 8 1 fullShare (scr X c) : sProp 𝕄) ⊣⊢ iprop(recvPay X c 9 ∗ recvPay X c 10 ∗ recvPay X c 11) := join3 c 5 1 (scr X c)

/-- A peer's two landing pieces, as those of the two copies that go to it. -/
theorem bar_split (k : Fin 6) (n n' : Fin 12) (h1 : pk n = k) (h2 : pk n' = k) (h3 : (hf n).val = 0) (h4 : (hf n').val = 1) :
    (barPay c k : sProp 𝕄) ⊢ iprop(dstP c n ∗ dstP c n') := by
  unfold barPay dstP
  rw [h1, h2, h3, h4]
  iintro ⟨%f, H0, H1⟩
  isplitl [H0]
  · iexists f; iexact H0
  · iexists f; iexact H1

end Groups

/-! ## Loads and stores of the staging buffers -/

/-- The zero offset of rank three. -/
theorem hz3 : (![0, 0, 0] : Fin 3 → ℕ) = fun _ => 0 := by decide
/-- The zero offset of rank two. -/
theorem hz2 : (![0, 0] : Fin 2 → ℕ) = fun _ => 0 := by decide

/-- A staging buffer of `c`, whole, at contents `f`. -/
abbrev stgP (c : Dev nD) (b : Ref sig .tc) (f : b.ty.Contents (Elt F)) : sProp 𝕄 :=
  ((c : Thread nD τ).loc b) ↦{fullShare} (f : Buf (Elt F) ((c : Thread nD τ).loc b))

end Cert.Talk

end
-- ==== Proof.PartsA.lean ====
/-
# The body, part by part: up to the second exchange

Each part of the kernel's body, from what it takes to what it leaves.
-/
module

public import proofs.«01_k».proof.Proof.Names

@[expose] public section

set_option maxRecDepth 16384
set_option maxHeartbeats 1000000

noncomputable section

namespace Cert.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → XTy F) (K : Dev nD × Fin 26 → ℕ) (c : Dev nD)

omit [FloatOps F] in
/-- A load of the whole block of `x` reads it. -/
theorem rd0 (f : (cc0_stg0_0 : Ref sig .tc).ty.Contents (Elt F)) : (Memref.whole cc0_stg0_0 : Memref sig .tc .vmem S4x1024x256 .bf16).view.readAt (Elt F) (Rect.unit (s := S4x1024x256) ![0, 0, 0] S4x1024x256.size inb_S4x1024x256_S4x1024x256_0_0_0).toLoadRect f = f :=
  Memref.readAt_unit_zero (Elt F) cc0_stg0_0 hz3 _ f
omit [FloatOps F] in
/-- A load of the whole of `t_emb` reads it. -/
theorem rd1 (f : (cc0_stg1_0 : Ref sig .tc).ty.Contents (Elt F)) : (Memref.whole cc0_stg1_0 : Memref sig .tc .vmem S4x128 .bf16).view.readAt (Elt F) (Rect.unit (s := S4x128) ![0, 0] S4x128.size inb_S4x128_S4x128_0_0).toLoadRect f = f :=
  Memref.readAt_unit_zero (Elt F) cc0_stg1_0 hz2 _ f
omit [FloatOps F] in
/-- A load of the whole block of `W_scale` reads it. -/
theorem rd2 (f : (cc0_stg2_0 : Ref sig .tc).ty.Contents (Elt F)) : (Memref.whole cc0_stg2_0 : Memref sig .tc .vmem S128x256 .bf16).view.readAt (Elt F) (Rect.unit (s := S128x256) ![0, 0] S128x256.size inb_S128x256_S128x256_0_0).toLoadRect f = f :=
  Memref.readAt_unit_zero (Elt F) cc0_stg2_0 hz2 _ f
omit [FloatOps F] in
/-- A load of the whole block of `W_shift` reads it. -/
theorem rd3 (f : (cc0_stg3_0 : Ref sig .tc).ty.Contents (Elt F)) : (Memref.whole cc0_stg3_0 : Memref sig .tc .vmem S128x256 .bf16).view.readAt (Elt F) (Rect.unit (s := S128x256) ![0, 0] S128x256.size inb_S128x256_S128x256_0_0).toLoadRect f = f :=
  Memref.readAt_unit_zero (Elt F) cc0_stg3_0 hz2 _ f
omit [FloatOps F] in
/-- A store of the whole result leaves what is stored. -/
theorem wr4 (f w : (cc0_stg4_0 : Ref sig .tc).ty.Contents (Elt F)) :
    ((Memref.whole cc0_stg4_0 : Memref sig .tc .vmem S4x1024x256 .bf16).access (Rect.unit (s := S4x1024x256) ![0, 0, 0] S4x1024x256.size inb_S4x1024x256_S4x1024x256_0_0_0) : View sig .tc _ _ _).write (Elt F) f w Finset.univ = w :=
  Memref.write_access_unit_zero_univ (Elt F) cc0_stg4_0 hz3 _ f w

/-- Part 1 reads the device's number and computes words. -/
theorem part1 (R : sProp 𝕄) (Kt : (Σ' (d0 : Dev nD) (v24 : BitVec 32) (v27 : BitVec 32) (v30 : BitVec 32) (v32 : BitVec 32) (v34 : BitVec 32) (v35 : BitVec 32), BitVec 32) → sProp 𝕄)
    (h : ∀ v24 v27 v30 v32 v34 v35 v : BitVec 32, R ⊢ Kt ⟨c, v24, v27, v30, v32, v34, v35, v⟩) :
    R ⊢ wp frame (wpE (defs₀ (F := F)) 𝒱₀ (c : Thread nD τ) none) Set.univ (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scoped0) Kt := by
  rw [k0_part1_eq_skeleton]; unfold k0_part1_skel
  simp only [semSignalWord, semWaitWord, Prog.lift, Prog.bind_op, Prog.bind_ret, Prog.pure_eq_ret, wp_deviceId]
  rw [wp_ret]
  iintro HR
  imodintro
  iapply (h _ _ _ _ _ _ _); iexact HR

variable (f0 f1 : ScTy F)

/-- Part 2: the six barrier signals, and the loads. -/
theorem part2 (v24 : BitVec 32) (v27 : BitVec 32) (v30 : BitVec 32) (v32 : BitVec 32) (v34 : BitVec 32) (v35 : BitVec 32) (c16_i32_14 : BitVec 32) (Kt : (Σ' (v36 : BitVec 32) (v37 : Sems sig S_) (v51 : FVec F S4x1024x256 .bf16), FVec F S1x8x512 .bf16) → sProp 𝕄) :
    iprop((records X K ∗ Ow c 24 ∗ sigTok c 0 ∗ sigTok c 1 ∗ sigTok c 2 ∗ sigTok c 3 ∗ sigTok c 4 ∗ sigTok c 5 ∗ handP c 0 ∗ handP c 1 ∗ handP c 2 ∗ handP c 3 ∗ handP c 4 ∗ handP c 5 ∗ stgP c cc0_stg0_0 (X c) ∗ P c 0 1 0 fullShare f0)
      ∗ ((Ow c 18 ∗ stgP c cc0_stg0_0 (X c) ∗ P c 0 1 0 fullShare f0) -∗ Kt ⟨Scalar.remsi v35 c16_i32_14, SemArray.scalar (sig.barrier 0 rfl), k0_pay1 (X c), k0_pay2 (X c)⟩))
      ⊢ wp frame (wpE (defs₀ (F := F)) 𝒱₀ (c : Thread nD τ) none) Set.univ (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scoped0 c v24 v27 v30 v32 v34 v35 c16_i32_14) Kt := by
  rw [k0_part2_eq_skeleton]; unfold k0_part2_skel
  simp only [semSignalWord, semWaitWord, Prog.lift, Prog.bind_op, Prog.bind_ret, Prog.pure_eq_ret, wp_deviceId]
  iintro ⟨⟨#HR, HO, HT0, HT1, HT2, HT3, HT4, HT5, HP0, HP1, HP2, HP3, HP4, HP5, HX, HF⟩, Hk⟩
  iapply (step_sig X K c 0 (dv1 c) 23 (by decide)) $$ [HO HT0 HP0]
  · isplitr; · iexact HR
    isplitl [HO]; · iexact HO
    isplitl [HT0] <;> iassumption
  iintro HO
  iapply (step_sig X K c 1 (dv2 c) 22 (by decide)) $$ [HO HT1 HP1]
  · isplitr; · iexact HR
    isplitl [HO]; · iexact HO
    isplitl [HT1] <;> iassumption
  iintro HO
  iapply (step_sig X K c 2 (dv3 c) 21 (by decide)) $$ [HO HT2 HP2]
  · isplitr; · iexact HR
    isplitl [HO]; · iexact HO
    isplitl [HT2] <;> iassumption
  iintro HO
  iapply (step_sig X K c 3 (dv4 c) 20 (by decide)) $$ [HO HT3 HP3]
  · isplitr; · iexact HR
    isplitl [HO]; · iexact HO
    isplitl [HT3] <;> iassumption
  iintro HO
  iapply (step_sig X K c 4 (dv5 c) 19 (by decide)) $$ [HO HT4 HP4]
  · isplitr; · iexact HR
    isplitl [HO]; · iexact HO
    isplitl [HT4] <;> iassumption
  iintro HO
  iapply (step_sig X K c 5 (dv6 c) 18 (by decide)) $$ [HO HT5 HP5]
  · isplitr; · iexact HR
    isplitl [HO]; · iexact HO
    isplitl [HT5] <;> iassumption
  iintro HO
  iapply (wp_load 𝒱₀ (c : Thread nD τ) none Set.univ (m := (Memref.whole cc0_stg0_0 : Memref sig .tc .vmem S4x1024x256 .bf16)) (Finset.subset_univ _)) $$ HX; iintro HX
  rw [rd0]
  iapply (step_ld c (h := 0) (load_set 0 1 0 (by decide) _)) $$ HF; iintro HF
  rw [wp_ret]; imodintro
  iapply Hk
  isplitl [HO]; · iexact HO
  isplitl [HX]; · iexact HX
  iexact HF

/-- Part 3: the device's own partial sums are stored; the barrier wait; copy 0. -/
theorem part3 (v24 : BitVec 32) (v27 : BitVec 32) (Kt : (PUnit) → sProp 𝕄) :
    iprop((records X K ∗ levAts L lv ∗ Ow c 18 ∗ P c 0 1 0 fullShare f0 ∗ P c 0 1 1 fullShare f1 ∗ atPos ER (barCell c) 0 ∅ 0 ∗ cred (tallyAt (barCell c) () 6) ∗ copyTok c 0 ∗ snd0 c 0)
      ∗ ((Ow c 17 ∗ P c 0 1 0 keep (scr X c) ∗ P c 0 1 1 fullShare (scr X c) ∗ semVal (barCell c) 0 ∗ snd1 c 0 ∗ sendPay X c 1 ∗ sendPay X c 2 ∗ dstP c 1 ∗ dstP c 2 ∗ dstP c 3 ∗ dstP c 4 ∗ dstP c 5 ∗ dstP c 6 ∗ dstP c 7 ∗ dstP c 8 ∗ dstP c 9 ∗ dstP c 10 ∗ dstP c 11) -∗ Kt ⟨⟩))
      ⊢ wp frame (wpE (defs₀ (F := F)) 𝒱₀ (c : Thread nD τ) none) Set.univ (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scoped0 c v24 v27 (SemArray.scalar (sig.barrier 0 rfl)) (k0_pay1 (X c)) (k0_pay2 (X c))) Kt := by
  rw [k0_part3_eq_skeleton]; unfold k0_part3_skel
  simp only [semSignalWord, semWaitWord, Prog.lift, Prog.bind_op, Prog.bind_ret, Prog.pure_eq_ret, wp_deviceId]
  iintro ⟨⟨#HR, #Hl, HO, HF, HE, HB, HC, HT0, HA0⟩, Hk⟩
  iapply (step_st X c (access_set 0 1 0 (by decide) _) (store_agrees X c 0 0 (by decide) _ _ _ (scr_st0 X c))) $$ HF; iintro HF
  iapply (step_ld c (load_set 0 1 1 (by decide) _)) $$ HE; iintro HE
  iapply (step_st X c (access_set 0 1 1 (by decide) _) (store_agrees X c 0 1 (by decide) _ _ _ (scr_st1 X c))) $$ HE; iintro HE
  iapply (step_bar_wait X K c) $$ [HO HB HC]
  · isplitr; · iexact HR
    isplitr; · iexact Hl
    isplitl [HO]; · iexact HO
    isplitl [HB] <;> iassumption
  iintro ⟨HO, HB, HY0, HY1, HY2, HY3, HY4, HY5⟩
  ihave HY0 := (bar_split c 0 0 3 rfl rfl rfl rfl) $$ HY0
  icases HY0 with ⟨HD0, HD3⟩
  ihave HY1 := (bar_split c 1 1 4 rfl rfl rfl rfl) $$ HY1
  icases HY1 with ⟨HD1, HD4⟩
  ihave HY2 := (bar_split c 2 2 5 rfl rfl rfl rfl) $$ HY2
  icases HY2 with ⟨HD2, HD5⟩
  ihave HY3 := (bar_split c 3 6 9 rfl rfl rfl rfl) $$ HY3
  icases HY3 with ⟨HD6, HD9⟩
  ihave HY4 := (bar_split c 4 7 10 rfl rfl rfl rfl) $$ HY4
  icases HY4 with ⟨HD7, HD10⟩
  ihave HY5 := (bar_split c 5 8 11 rfl rfl rfl rfl) $$ HY5
  icases HY5 with ⟨HD8, HD11⟩
  ihave HF := (lend_0 X c).1 $$ HF
  icases HF with ⟨⟨HS0, HS1⟩, HS2, HF⟩
  iapply (step_copy X K c 0 (dv7 c) 17 (by decide) pcE_0_0 pcE_1_0 sendE_0 recvE_0) $$ [HO HS0 HD0 HT0 HA0]
  · isplitr; · iexact HR
    isplitl [HO]; · iexact HO
    isplitl [HS0]; · iexact HS0
    isplitl [HD0]; · iexact HD0
    isplitl [HT0] <;> iassumption
  iintro ⟨HO, HA0⟩
  rw [wp_ret]; imodintro
  iapply Hk
  isplitl [HO]; · iexact HO
  isplitl [HF]; · iexact HF
  isplitl [HE]; · iexact HE
  isplitl [HB]; · iexact HB
  isplitl [HA0]; · iexact HA0
  isplitl [HS1]; · iexact HS1
  isplitl [HS2]; · iexact HS2
  isplitl [HD1]; · iexact HD1
  isplitl [HD2]; · iexact HD2
  isplitl [HD3]; · iexact HD3
  isplitl [HD4]; · iexact HD4
  isplitl [HD5]; · iexact HD5
  isplitl [HD6]; · iexact HD6
  isplitl [HD7]; · iexact HD7
  isplitl [HD8]; · iexact HD8
  isplitl [HD9]; · iexact HD9
  isplitl [HD10]; · iexact HD10
  iexact HD11

/-- Part 4: copies 1 to 3. -/
theorem part4 (v24 : BitVec 32) (v27 : BitVec 32) (v30 : BitVec 32) (Kt : (PUnit) → sProp 𝕄) :
    iprop((records X K ∗ Ow c 17 ∗ sendPay X c 1 ∗ sendPay X c 2 ∗ P c 0 1 1 fullShare (scr X c) ∗ dstP c 1 ∗ copyTok c 1 ∗ snd0 c 1 ∗ dstP c 2 ∗ copyTok c 2 ∗ snd0 c 2 ∗ dstP c 3 ∗ copyTok c 3 ∗ snd0 c 3)
      ∗ ((Ow c 14 ∗ P c 0 1 1 keep (scr X c) ∗ sendPay X c 4 ∗ sendPay X c 5 ∗ snd1 c 1 ∗ snd1 c 2 ∗ snd1 c 3) -∗ Kt ⟨⟩))
      ⊢ wp frame (wpE (defs₀ (F := F)) 𝒱₀ (c : Thread nD τ) none) Set.univ (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scoped0 c v24 v27 v30) Kt := by
  rw [k0_part4_eq_skeleton]; unfold k0_part4_skel
  simp only [semSignalWord, semWaitWord, Prog.lift, Prog.bind_op, Prog.bind_ret, Prog.pure_eq_ret, wp_deviceId]
  iintro ⟨⟨#HR, HO, HS1, HS2, HE, HD1, HT1, HA1, HD2, HT2, HA2, HD3, HT3, HA3⟩, Hk⟩
  ihave HE := (lend_1 X c).1 $$ HE
  icases HE with ⟨⟨HS3, HS4⟩, HS5, HE⟩
  iapply (step_copy X K c 1 (dv8 c) 16 (by decide) pcE_0_0 pcE_2_0 sendE_1 recvE_1) $$ [HO HS1 HD1 HT1 HA1]
  · isplitr; · iexact HR
    isplitl [HO]; · iexact HO
    isplitl [HS1]; · iexact HS1
    isplitl [HD1]; · iexact HD1
    isplitl [HT1] <;> iassumption
  iintro ⟨HO, HA1⟩
  iapply (step_copy X K c 2 (dv9 c) 15 (by decide) pcE_0_0 pcE_3_0 sendE_2 recvE_2) $$ [HO HS2 HD2 HT2 HA2]
  · isplitr; · iexact HR
    isplitl [HO]; · iexact HO
    isplitl [HS2]; · iexact HS2
    isplitl [HD2]; · iexact HD2
    isplitl [HT2] <;> iassumption
  iintro ⟨HO, HA2⟩
  iapply (step_copy X K c 3 (dv10 c) 14 (by decide) pcE_0_1 pcE_1_1 sendE_3 recvE_3) $$ [HO HS3 HD3 HT3 HA3]
  · isplitr; · iexact HR
    isplitl [HO]; · iexact HO
    isplitl [HS3]; · iexact HS3
    isplitl [HD3]; · iexact HD3
    isplitl [HT3] <;> iassumption
  iintro ⟨HO, HA3⟩
  rw [wp_ret]; imodintro
  iapply Hk
  isplitl [HO]; · iexact HO
  isplitl [HE]; · iexact HE
  isplitl [HS4]; · iexact HS4
  isplitl [HS5]; · iexact HS5
  isplitl [HA1]; · iexact HA1
  isplitl [HA2]; · iexact HA2
  iexact HA3

variable (t : (⟨S4x128, .bf16⟩ : BufTy).Contents (Elt F)) (ws wh : (⟨S128x256, .bf16⟩ : BufTy).Contents (Elt F))

/-- Part 5: copies 4 and 5, and the two products. -/
theorem part5 (v24 : BitVec 32) (v30 : BitVec 32) (Kt : (Σ' (v140 : FVec F S4x256 .f32), FVec F S4x256 .f32) → sProp 𝕄) :
    iprop((records X K ∗ Ow c 14 ∗ sendPay X c 4 ∗ sendPay X c 5 ∗ dstP c 4 ∗ copyTok c 4 ∗ snd0 c 4 ∗ dstP c 5 ∗ copyTok c 5 ∗ snd0 c 5 ∗ stgP c cc0_stg1_0 t ∗ stgP c cc0_stg2_0 ws ∗ stgP c cc0_stg3_0 wh)
      ∗ ((Ow c 12 ∗ snd1 c 4 ∗ snd1 c 5 ∗ stgP c cc0_stg1_0 t ∗ stgP c cc0_stg2_0 ws ∗ stgP c cc0_stg3_0 wh) -∗ Kt ⟨k0_pay4 t ws, k0_pay5 t wh⟩))
      ⊢ wp frame (wpE (defs₀ (F := F)) 𝒱₀ (c : Thread nD τ) none) Set.univ (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scoped0 c v24 v30) Kt := by
  rw [k0_part5_eq_skeleton]; unfold k0_part5_skel
  simp only [semSignalWord, semWaitWord, Prog.lift, Prog.bind_op, Prog.bind_ret, Prog.pure_eq_ret, wp_deviceId]
  iintro ⟨⟨#HR, HO, HS4, HS5, HD4, HT4, HA4, HD5, HT5, HA5, HX1, HX2, HX3⟩, Hk⟩
  iapply (step_copy X K c 4 (dv11 c) 13 (by decide) pcE_0_1 pcE_2_1 sendE_4 recvE_4) $$ [HO HS4 HD4 HT4 HA4]
  · isplitr; · iexact HR
    isplitl [HO]; · iexact HO
    isplitl [HS4]; · iexact HS4
    isplitl [HD4]; · iexact HD4
    isplitl [HT4] <;> iassumption
  iintro ⟨HO, HA4⟩
  iapply (step_copy X K c 5 (dv12 c) 12 (by decide) pcE_0_1 pcE_3_1 sendE_5 recvE_5) $$ [HO HS5 HD5 HT5 HA5]
  · isplitr; · iexact HR
    isplitl [HO]; · iexact HO
    isplitl [HS5]; · iexact HS5
    isplitl [HD5]; · iexact HD5
    isplitl [HT5] <;> iassumption
  iintro ⟨HO, HA5⟩
  iapply (wp_load 𝒱₀ (c : Thread nD τ) none Set.univ (m := (Memref.whole cc0_stg1_0 : Memref sig .tc .vmem S4x128 .bf16)) (Finset.subset_univ _)) $$ HX1; iintro HX1
  rw [rd1]
  iapply (wp_load 𝒱₀ (c : Thread nD τ) none Set.univ (m := (Memref.whole cc0_stg2_0 : Memref sig .tc .vmem S128x256 .bf16)) (Finset.subset_univ _)) $$ HX2; iintro HX2
  rw [rd2]
  iapply (wp_load 𝒱₀ (c : Thread nD τ) none Set.univ (m := (Memref.whole cc0_stg1_0 : Memref sig .tc .vmem S4x128 .bf16)) (Finset.subset_univ _)) $$ HX1; iintro HX1
  rw [rd1]
  iapply (wp_load 𝒱₀ (c : Thread nD τ) none Set.univ (m := (Memref.whole cc0_stg3_0 : Memref sig .tc .vmem S128x256 .bf16)) (Finset.subset_univ _)) $$ HX3; iintro HX3
  rw [rd3]
  rw [wp_ret]; imodintro
  iapply Hk
  isplitl [HO]; · iexact HO
  isplitl [HA4]; · iexact HA4
  isplitl [HA5]; · iexact HA5
  isplitl [HX1]; · iexact HX1
  isplitl [HX2]; · iexact HX2
  iexact HX3

/-- Part 6: the first half of the plane's partial sums arrives and is summed. -/
theorem part6 (v27 : BitVec 32) (v30 : BitVec 32) (Kt : (FVec F S8x512 .f32) → sProp 𝕄) :
    iprop((records X K ∗ levAts L lv ∗ Ow c 12 ∗ P c 0 1 0 keep (scr X c) ∗ P c 4 5 0 fullShare f0 ∗ rcv0 c 0 ∗ rcv0 c 1 ∗ rcv0 c 2)
      ∗ ((Ow c 12 ∗ P c 0 1 0 keep (scr X c) ∗ P c 1 4 0 fullShare (scr X c) ∗ P c 4 5 0 fullShare (scr X c) ∗ rcv1 c 0 ∗ rcv1 c 1 ∗ rcv1 c 2) -∗ Kt (k0_pay6 (plane4 X c 0))))
      ⊢ wp frame (wpE (defs₀ (F := F)) 𝒱₀ (c : Thread nD τ) none) Set.univ (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scoped0 v27 v30) Kt := by
  rw [k0_part6_eq_skeleton]; unfold k0_part6_skel
  simp only [semSignalWord, semWaitWord, Prog.lift, Prog.bind_op, Prog.bind_ret, Prog.pure_eq_ret, wp_deviceId]
  iintro ⟨⟨#HR, #Hl, HO, HE, HF, HV0, HV1, HV2⟩, Hk⟩
  iapply (step_recv X K c 0 recvE_0 12 (by decide) (by decide) pcE_1_0) $$ [HO HV0]
  · isplitr; · iexact HR
    isplitr; · iexact Hl
    isplitl [HO] <;> iassumption
  iintro ⟨HO, HV0, HG0⟩
  iapply (step_recv X K c 1 recvE_1 12 (by decide) (by decide) pcE_2_0) $$ [HO HV1]
  · isplitr; · iexact HR
    isplitr; · iexact Hl
    isplitl [HO] <;> iassumption
  iintro ⟨HO, HV1, HG1⟩
  iapply (step_recv X K c 2 recvE_2 12 (by decide) (by decide) pcE_3_0) $$ [HO HV2]
  · isplitr; · iexact HR
    isplitr; · iexact Hl
    isplitl [HO] <;> iassumption
  iintro ⟨HO, HV2, HG2⟩
  ihave HG := (got_0 X c).2 $$ [HG0 HG1 HG2]
  · isplitl [HG0]; · iexact HG0
    isplitl [HG1] <;> iassumption
  ihave Hpl := (plane_open c 0 (scr X c)) $$ [HE HG]
  · isplitl [HE] <;> iassumption
  icases Hpl with ⟨Hpl, Hback⟩
  iapply (step_ld c (load_set 0 4 0 (by decide) _)) $$ Hpl; iintro Hpl
  rw [show scM.view.readAt (Elt F) _ (scr X c) = plane4 X c 0 from read_plane X c 0 _]
  ihave Hpl := Hback $$ Hpl
  icases Hpl with ⟨HE, HG⟩
  iapply (step_ld c (load_set 4 1 0 (by decide) _)) $$ HF; iintro HF
  iapply (step_st X c (access_set 4 1 0 (by decide) _) (store_agrees X c 4 0 (by decide) _ _ _ (scr_pt0 X c))) $$ HF; iintro HF
  rw [wp_ret]; imodintro
  iapply Hk
  isplitl [HO]; · iexact HO
  isplitl [HE]; · iexact HE
  isplitl [HG]; · iexact HG
  isplitl [HF]; · iexact HF
  isplitl [HV0]; · iexact HV0
  isplitl [HV1]; · iexact HV1
  iexact HV2

/-- Part 7: copies 6 and 7. -/
theorem part7 (v32 : BitVec 32) (v34 : BitVec 32) (v36 : BitVec 32) (Kt : (PUnit) → sProp 𝕄) :
    iprop((records X K ∗ Ow c 12 ∗ P c 4 5 0 fullShare (scr X c) ∗ dstP c 6 ∗ copyTok c 6 ∗ snd0 c 6 ∗ dstP c 7 ∗ copyTok c 7 ∗ snd0 c 7)
      ∗ ((Ow c 10 ∗ P c 4 5 0 keep (scr X c) ∗ sendPay X c 8 ∗ snd1 c 6 ∗ snd1 c 7) -∗ Kt ⟨⟩))
      ⊢ wp frame (wpE (defs₀ (F := F)) 𝒱₀ (c : Thread nD τ) none) Set.univ (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scoped0 c v32 v34 v36) Kt := by
  rw [k0_part7_eq_skeleton]; unfold k0_part7_skel
  simp only [semSignalWord, semWaitWord, Prog.lift, Prog.bind_op, Prog.bind_ret, Prog.pure_eq_ret, wp_deviceId]
  iintro ⟨⟨#HR, HO, HF, HD6, HT6, HA6, HD7, HT7, HA7⟩, Hk⟩
  ihave HF := (lend_2 X c).1 $$ HF
  icases HF with ⟨⟨HS6, HS7⟩, HS8, HF⟩
  iapply (step_copy X K c 6 (dv13 c) 11 (by decide) pcE_4_0 pcE_5_0 sendE_6 recvE_6) $$ [HO HS6 HD6 HT6 HA6]
  · isplitr; · iexact HR
    isplitl [HO]; · iexact HO
    isplitl [HS6]; · iexact HS6
    isplitl [HD6]; · iexact HD6
    isplitl [HT6] <;> iassumption
  iintro ⟨HO, HA6⟩
  iapply (step_copy X K c 7 (dv14 c) 10 (by decide) pcE_4_0 pcE_6_0 sendE_7 recvE_7) $$ [HO HS7 HD7 HT7 HA7]
  · isplitr; · iexact HR
    isplitl [HO]; · iexact HO
    isplitl [HS7]; · iexact HS7
    isplitl [HD7]; · iexact HD7
    isplitl [HT7] <;> iassumption
  iintro ⟨HO, HA7⟩
  rw [wp_ret]; imodintro
  iapply Hk
  isplitl [HO]; · iexact HO
  isplitl [HF]; · iexact HF
  isplitl [HS8]; · iexact HS8
  isplitl [HA6]; · iexact HA6
  iexact HA7

end Cert.Talk

end
-- ==== Proof.PartsB.lean ====
/-
# The body, part by part: from the second exchange on
-/
module

public import proofs.«01_k».proof.Proof.PartsA

@[expose] public section

set_option maxRecDepth 16384
set_option maxHeartbeats 1000000

noncomputable section

namespace Cert.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → XTy F) (K : Dev nD × Fin 26 → ℕ) (c : Dev nD)

variable (f0 : ScTy F)

/-- Part 8: copy 8, and the second half of the plane's partial sums arrives. -/
theorem part8 (v24 : BitVec 32) (v27 : BitVec 32) (v30 : BitVec 32) (Kt : (PUnit) → sProp 𝕄) :
    iprop((records X K ∗ levAts L lv ∗ Ow c 10 ∗ sendPay X c 8 ∗ dstP c 8 ∗ copyTok c 8 ∗ snd0 c 8 ∗ rcv0 c 3 ∗ rcv0 c 4 ∗ rcv0 c 5)
      ∗ ((Ow c 9 ∗ snd1 c 8 ∗ rcv1 c 3 ∗ rcv1 c 4 ∗ rcv1 c 5 ∗ recvPay X c 3 ∗ recvPay X c 4 ∗ recvPay X c 5) -∗ Kt ⟨⟩))
      ⊢ wp frame (wpE (defs₀ (F := F)) 𝒱₀ (c : Thread nD τ) none) Set.univ (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scoped0 c v24 v27 v30) Kt := by
  rw [k0_part8_eq_skeleton]; unfold k0_part8_skel
  simp only [semSignalWord, semWaitWord, Prog.lift, Prog.bind_op, Prog.bind_ret, Prog.pure_eq_ret, wp_deviceId]
  iintro ⟨⟨#HR, #Hl, HO, HS8, HD8, HT8, HA8, HV3, HV4, HV5⟩, Hk⟩
  iapply (step_copy X K c 8 (dv15 c) 9 (by decide) pcE_4_0 pcE_7_0 sendE_8 recvE_8) $$ [HO HS8 HD8 HT8 HA8]
  · isplitr; · iexact HR
    isplitl [HO]; · iexact HO
    isplitl [HS8]; · iexact HS8
    isplitl [HD8]; · iexact HD8
    isplitl [HT8] <;> iassumption
  iintro ⟨HO, HA8⟩
  iapply (step_recv X K c 3 recvE_3 9 (by decide) (by decide) pcE_1_1) $$ [HO HV3]
  · isplitr; · iexact HR
    isplitr; · iexact Hl
    isplitl [HO] <;> iassumption
  iintro ⟨HO, HV3, HG3⟩
  iapply (step_recv X K c 4 recvE_4 9 (by decide) (by decide) pcE_2_1) $$ [HO HV4]
  · isplitr; · iexact HR
    isplitr; · iexact Hl
    isplitl [HO] <;> iassumption
  iintro ⟨HO, HV4, HG4⟩
  iapply (step_recv X K c 5 recvE_5 9 (by decide) (by decide) pcE_3_1) $$ [HO HV5]
  · isplitr; · iexact HR
    isplitr; · iexact Hl
    isplitl [HO] <;> iassumption
  iintro ⟨HO, HV5, HG5⟩
  rw [wp_ret]; imodintro
  iapply Hk
  isplitl [HO]; · iexact HO
  isplitl [HA8]; · iexact HA8
  isplitl [HV3]; · iexact HV3
  isplitl [HV4]; · iexact HV4
  isplitl [HV5]; · iexact HV5
  isplitl [HG3]; · iexact HG3
  isplitl [HG4]; · iexact HG4
  iexact HG5

/-- Part 9: the second half is summed; copies 9 and 10. -/
theorem part9 (v32 : BitVec 32) (v34 : BitVec 32) (Kt : (FVec F S8x512 .f32) → sProp 𝕄) :
    iprop((records X K ∗ Ow c 9 ∗ P c 0 1 1 keep (scr X c) ∗ P c 4 5 1 fullShare f0 ∗ recvPay X c 3 ∗ recvPay X c 4 ∗ recvPay X c 5 ∗ dstP c 9 ∗ copyTok c 9 ∗ snd0 c 9 ∗ dstP c 10 ∗ copyTok c 10 ∗ snd0 c 10)
      ∗ ((Ow c 7 ∗ P c 0 1 1 keep (scr X c) ∗ P c 1 4 1 fullShare (scr X c) ∗ P c 4 5 1 keep (scr X c) ∗ sendPay X c 11 ∗ snd1 c 9 ∗ snd1 c 10) -∗ Kt (k0_pay8 (plane4 X c 1))))
      ⊢ wp frame (wpE (defs₀ (F := F)) 𝒱₀ (c : Thread nD τ) none) Set.univ (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scoped0 c v32 v34) Kt := by
  rw [k0_part9_eq_skeleton]; unfold k0_part9_skel
  simp only [semSignalWord, semWaitWord, Prog.lift, Prog.bind_op, Prog.bind_ret, Prog.pure_eq_ret, wp_deviceId]
  iintro ⟨⟨#HR, HO, HE, HF, HG3, HG4, HG5, HD9, HT9, HA9, HD10, HT10, HA10⟩, Hk⟩
  ihave HG := (got_1 X c).2 $$ [HG3 HG4 HG5]
  · isplitl [HG3]; · iexact HG3
    isplitl [HG4] <;> iassumption
  ihave Hpl := (plane_open c 1 (scr X c)) $$ [HE HG]
  · isplitl [HE] <;> iassumption
  icases Hpl with ⟨Hpl, Hback⟩
  iapply (step_ld c (load_set 0 4 1 (by decide) _)) $$ Hpl; iintro Hpl
  rw [show scM.view.readAt (Elt F) _ (scr X c) = plane4 X c 1 from read_plane X c 1 _]
  ihave Hpl := Hback $$ Hpl
  icases Hpl with ⟨HE, HG⟩
  iapply (step_ld c (load_set 4 1 1 (by decide) _)) $$ HF; iintro HF
  iapply (step_st X c (access_set 4 1 1 (by decide) _) (store_agrees X c 4 1 (by decide) _ _ _ (scr_pt1 X c))) $$ HF; iintro HF
  ihave HF := (lend_3 X c).1 $$ HF
  icases HF with ⟨⟨HS9, HS10⟩, HS11, HF⟩
  iapply (step_copy X K c 9 (dv16 c) 8 (by decide) pcE_4_1 pcE_5_1 sendE_9 recvE_9) $$ [HO HS9 HD9 HT9 HA9]
  · isplitr; · iexact HR
    isplitl [HO]; · iexact HO
    isplitl [HS9]; · iexact HS9
    isplitl [HD9]; · iexact HD9
    isplitl [HT9] <;> iassumption
  iintro ⟨HO, HA9⟩
  iapply (step_copy X K c 10 (dv17 c) 7 (by decide) pcE_4_1 pcE_6_1 sendE_10 recvE_10) $$ [HO HS10 HD10 HT10 HA10]
  · isplitr; · iexact HR
    isplitl [HO]; · iexact HO
    isplitl [HS10]; · iexact HS10
    isplitl [HD10]; · iexact HD10
    isplitl [HT10] <;> iassumption
  iintro ⟨HO, HA10⟩
  rw [wp_ret]; imodintro
  iapply Hk
  isplitl [HO]; · iexact HO
  isplitl [HE]; · iexact HE
  isplitl [HG]; · iexact HG
  isplitl [HF]; · iexact HF
  isplitl [HS11]; · iexact HS11
  isplitl [HA9]; · iexact HA9
  iexact HA10

/-- Part 10: copy 11, and receive 6. -/
theorem part10 (v32 : BitVec 32) (v34 : BitVec 32) (v36 : BitVec 32) (v140 : FVec F S4x256 .f32) (v145 : FVec F S4x256 .f32) (Kt : (Σ' (v271 : FVec F S4x1x256 .bf16), FVec F S4x1x256 .bf16) → sProp 𝕄) :
    iprop((records X K ∗ levAts L lv ∗ Ow c 7 ∗ sendPay X c 11 ∗ dstP c 11 ∗ copyTok c 11 ∗ snd0 c 11 ∗ rcv0 c 6)
      ∗ ((Ow c 6 ∗ snd1 c 11 ∗ rcv1 c 6 ∗ recvPay X c 6) -∗ Kt ⟨k0_pay10 v140, k0_pay11 v145⟩))
      ⊢ wp frame (wpE (defs₀ (F := F)) 𝒱₀ (c : Thread nD τ) none) Set.univ (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scoped0 c v32 v34 v36 v140 v145) Kt := by
  rw [k0_part10_eq_skeleton]; unfold k0_part10_skel
  simp only [semSignalWord, semWaitWord, Prog.lift, Prog.bind_op, Prog.bind_ret, Prog.pure_eq_ret, wp_deviceId]
  iintro ⟨⟨#HR, #Hl, HO, HS11, HD11, HT11, HA11, HV6⟩, Hk⟩
  iapply (step_copy X K c 11 (dv18 c) 6 (by decide) pcE_4_1 pcE_7_1 sendE_11 recvE_11) $$ [HO HS11 HD11 HT11 HA11]
  · isplitr; · iexact HR
    isplitl [HO]; · iexact HO
    isplitl [HS11]; · iexact HS11
    isplitl [HD11]; · iexact HD11
    isplitl [HT11] <;> iassumption
  iintro ⟨HO, HA11⟩
  iapply (step_recv X K c 6 recvE_6 6 (by decide) (by decide) pcE_5_0) $$ [HO HV6]
  · isplitr; · iexact HR
    isplitr; · iexact Hl
    isplitl [HO] <;> iassumption
  iintro ⟨HO, HV6, HG6⟩
  rw [wp_ret]; imodintro
  iapply Hk
  isplitl [HO]; · iexact HO
  isplitl [HA11]; · iexact HA11
  isplitl [HV6]; · iexact HV6
  iexact HG6

/-- Part 11: the first half of the column's plane sums arrives and is added. -/
theorem part11 (v32 : BitVec 32) (v34 : BitVec 32) (v36 : BitVec 32) (v172 : FVec F S8x512 .f32) (Kt : (FVec F S8x512 .f32) → sProp 𝕄) :
    iprop((records X K ∗ levAts L lv ∗ Ow c 6 ∗ recvPay X c 6 ∗ rcv0 c 7 ∗ rcv0 c 8 ∗ rcv0 c 9)
      ∗ ((Ow c 6 ∗ P c 5 8 0 fullShare (scr X c) ∗ rcv1 c 7 ∗ rcv1 c 8 ∗ rcv1 c 9 ∗ recvPay X c 9) -∗ Kt (k0_pay12 v172 (col3 X c 0))))
      ⊢ wp frame (wpE (defs₀ (F := F)) 𝒱₀ (c : Thread nD τ) none) Set.univ (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scoped0 v32 v34 v36 v172) Kt := by
  rw [k0_part11_eq_skeleton]; unfold k0_part11_skel
  simp only [semSignalWord, semWaitWord, Prog.lift, Prog.bind_op, Prog.bind_ret, Prog.pure_eq_ret, wp_deviceId]
  iintro ⟨⟨#HR, #Hl, HO, HG6, HV7, HV8, HV9⟩, Hk⟩
  iapply (step_recv X K c 7 recvE_7 6 (by decide) (by decide) pcE_6_0) $$ [HO HV7]
  · isplitr; · iexact HR
    isplitr; · iexact Hl
    isplitl [HO] <;> iassumption
  iintro ⟨HO, HV7, HG7⟩
  iapply (step_recv X K c 8 recvE_8 6 (by decide) (by decide) pcE_7_0) $$ [HO HV8]
  · isplitr; · iexact HR
    isplitr; · iexact Hl
    isplitl [HO] <;> iassumption
  iintro ⟨HO, HV8, HG8⟩
  ihave HG := (got_2 X c).2 $$ [HG6 HG7 HG8]
  · isplitl [HG6]; · iexact HG6
    isplitl [HG7] <;> iassumption
  iapply (step_ld c (load_set 5 3 0 (by decide) _)) $$ HG; iintro HG
  rw [show scM.view.readAt (Elt F) _ (scr X c) = col3 X c 0 from read_col X c 0 _]
  iapply (step_recv X K c 9 recvE_9 6 (by decide) (by decide) pcE_5_1) $$ [HO HV9]
  · isplitr; · iexact HR
    isplitr; · iexact Hl
    isplitl [HO] <;> iassumption
  iintro ⟨HO, HV9, HG9⟩
  rw [wp_ret]; imodintro
  iapply Hk
  isplitl [HO]; · iexact HO
  isplitl [HG]; · iexact HG
  isplitl [HV7]; · iexact HV7
  isplitl [HV8]; · iexact HV8
  isplitl [HV9]; · iexact HV9
  iexact HG9

/-- Part 12: the second half of the column's plane sums arrives and is added. -/
theorem part12 (v36 : BitVec 32) (v233 : FVec F S8x512 .f32) (v301 : FVec F S8x512 .f32) (Kt : (FVec F S8x1024 .f32) → sProp 𝕄) :
    iprop((records X K ∗ levAts L lv ∗ Ow c 6 ∗ recvPay X c 9 ∗ rcv0 c 10 ∗ rcv0 c 11)
      ∗ ((Ow c 6 ∗ P c 5 8 1 fullShare (scr X c) ∗ rcv1 c 10 ∗ rcv1 c 11) -∗ Kt (k0_pay13 v233 v301 (col3 X c 1))))
      ⊢ wp frame (wpE (defs₀ (F := F)) 𝒱₀ (c : Thread nD τ) none) Set.univ (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scoped0 v36 v233 v301) Kt := by
  rw [k0_part12_eq_skeleton]; unfold k0_part12_skel
  simp only [semSignalWord, semWaitWord, Prog.lift, Prog.bind_op, Prog.bind_ret, Prog.pure_eq_ret, wp_deviceId]
  iintro ⟨⟨#HR, #Hl, HO, HG9, HV10, HV11⟩, Hk⟩
  iapply (step_recv X K c 10 recvE_10 6 (by decide) (by decide) pcE_6_1) $$ [HO HV10]
  · isplitr; · iexact HR
    isplitr; · iexact Hl
    isplitl [HO] <;> iassumption
  iintro ⟨HO, HV10, HG10⟩
  iapply (step_recv X K c 11 recvE_11 6 (by decide) (by decide) pcE_7_1) $$ [HO HV11]
  · isplitr; · iexact HR
    isplitr; · iexact Hl
    isplitl [HO] <;> iassumption
  iintro ⟨HO, HV11, HG11⟩
  ihave HG := (got_3 X c).2 $$ [HG9 HG10 HG11]
  · isplitl [HG9]; · iexact HG9
    isplitl [HG10] <;> iassumption
  iapply (step_ld c (load_set 5 3 1 (by decide) _)) $$ HG; iintro HG
  rw [show scM.view.readAt (Elt F) _ (scr X c) = col3 X c 1 from read_col X c 1 _]
  rw [wp_ret]; imodintro
  iapply Hk
  isplitl [HO]; · iexact HO
  isplitl [HG]; · iexact HG
  isplitl [HV10]; · iexact HV10
  iexact HV11

/-- Part 13: the six exit signals. -/
theorem part13 (v24 : BitVec 32) (v27 : BitVec 32) (v30 : BitVec 32) (v32 : BitVec 32) (v34 : BitVec 32) (v36 : BitVec 32) (Kt : (PUnit) → sProp 𝕄) :
    iprop((records X K ∗ Ow c 6 ∗ exitTok c 0 ∗ exitTok c 1 ∗ exitTok c 2 ∗ exitTok c 3 ∗ exitTok c 4 ∗ exitTok c 5)
      ∗ ((Ow c 0) -∗ Kt ⟨⟩))
      ⊢ wp frame (wpE (defs₀ (F := F)) 𝒱₀ (c : Thread nD τ) none) Set.univ (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scoped0 c v24 v27 v30 v32 v34 v36) Kt := by
  rw [k0_part13_eq_skeleton]; unfold k0_part13_skel
  simp only [semSignalWord, semWaitWord, Prog.lift, Prog.bind_op, Prog.bind_ret, Prog.pure_eq_ret, wp_deviceId]
  iintro ⟨⟨#HR, HO, HT0, HT1, HT2, HT3, HT4, HT5⟩, Hk⟩
  iapply (step_exit_sig X K c 0 (dv19 c) 5 (by decide)) $$ [HO HT0]
  · isplitr; · iexact HR
    isplitl [HO] <;> iassumption
  iintro HO
  iapply (step_exit_sig X K c 1 (dv20 c) 4 (by decide)) $$ [HO HT1]
  · isplitr; · iexact HR
    isplitl [HO] <;> iassumption
  iintro HO
  iapply (step_exit_sig X K c 2 (dv21 c) 3 (by decide)) $$ [HO HT2]
  · isplitr; · iexact HR
    isplitl [HO] <;> iassumption
  iintro HO
  iapply (step_exit_sig X K c 3 (dv22 c) 2 (by decide)) $$ [HO HT3]
  · isplitr; · iexact HR
    isplitl [HO] <;> iassumption
  iintro HO
  iapply (step_exit_sig X K c 4 (dv23 c) 1 (by decide)) $$ [HO HT4]
  · isplitr; · iexact HR
    isplitl [HO] <;> iassumption
  iintro HO
  iapply (step_exit_sig X K c 5 (dv24 c) 0 (by decide)) $$ [HO HT5]
  · isplitr; · iexact HR
    isplitl [HO] <;> iassumption
  iintro HO
  rw [wp_ret]; imodintro
  iapply Hk
  iexact HO

variable (g4 : XTy F)

/-- Part 14: the result is stored; the waits for sends 0 and 1. -/
theorem part14 (v51 : FVec F S4x1024x256 .bf16) (v271 : FVec F S4x1x256 .bf16) (v273 : FVec F S4x1x256 .bf16) (v330 : FVec F S8x1024 .f32) (Kt : (PUnit) → sProp 𝕄) :
    iprop((records X K ∗ Ow c 0 ∗ stgP c cc0_stg4_0 g4 ∗ snd1 c 0 ∗ snd1 c 1)
      ∗ ((Ow c 0 ∗ stgP c cc0_stg4_0 (k0_pay14 v51 v271 v273 v330) ∗ snd2 c 0 ∗ sendPay X c 0 ∗ snd2 c 1 ∗ sendPay X c 1) -∗ Kt ⟨⟩))
      ⊢ wp frame (wpE (defs₀ (F := F)) 𝒱₀ (c : Thread nD τ) none) Set.univ (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scoped0 v51 v271 v273 v330) Kt := by
  rw [k0_part14_eq_skeleton]; unfold k0_part14_skel
  simp only [semSignalWord, semWaitWord, Prog.lift, Prog.bind_op, Prog.bind_ret, Prog.pure_eq_ret, wp_deviceId]
  iintro ⟨⟨#HR, HO, HX, HA0, HA1⟩, Hk⟩
  iapply (wp_load 𝒱₀ (c : Thread nD τ) none Set.univ (m := (Memref.whole cc0_stg4_0 : Memref sig .tc .vmem S4x1024x256 .bf16)) (Finset.subset_univ _)) $$ HX; iintro HX
  iapply (wp_store 𝒱₀ (c : Thread nD τ) none Set.univ (m := (Memref.whole cc0_stg4_0 : Memref sig .tc .vmem S4x1024x256 .bf16)) (r := Rect.unit (s := S4x1024x256) ![0, 0, 0] S4x1024x256.size inb_S4x1024x256_S4x1024x256_0_0_0) (Mk := Finset.univ) (Finset.subset_univ _)) $$ HX; iintro HX
  rw [wr4]
  iapply (step_send_wait X K c 0 sendE_0 pcE_0_0) $$ [HO HA0]
  · isplitr; · iexact HR
    isplitl [HO] <;> iassumption
  iintro ⟨HO, HA0, HS0⟩
  iapply (step_send_wait X K c 1 sendE_1 pcE_0_0) $$ [HO HA1]
  · isplitr; · iexact HR
    isplitl [HO] <;> iassumption
  iintro ⟨HO, HA1, HS1⟩
  rw [wp_ret]; imodintro
  iapply Hk
  isplitl [HO]; · iexact HO
  isplitl [HX]; · iexact HX
  isplitl [HA0]; · iexact HA0
  isplitl [HS0]; · iexact HS0
  isplitl [HA1]; · iexact HA1
  iexact HS1

/-- Part 15: the waits for five sends. -/
theorem part15  (Kt : (PUnit) → sProp 𝕄) :
    iprop((records X K ∗ Ow c 0 ∗ snd1 c 2 ∗ snd1 c 6 ∗ snd1 c 7 ∗ snd1 c 8 ∗ snd1 c 3)
      ∗ ((Ow c 0 ∗ snd2 c 2 ∗ sendPay X c 2 ∗ snd2 c 6 ∗ sendPay X c 6 ∗ snd2 c 7 ∗ sendPay X c 7 ∗ snd2 c 8 ∗ sendPay X c 8 ∗ snd2 c 3 ∗ sendPay X c 3) -∗ Kt ⟨⟩))
      ⊢ wp frame (wpE (defs₀ (F := F)) 𝒱₀ (c : Thread nD τ) none) Set.univ (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scoped0) Kt := by
  rw [k0_part15_eq_skeleton]; unfold k0_part15_skel
  simp only [semSignalWord, semWaitWord, Prog.lift, Prog.bind_op, Prog.bind_ret, Prog.pure_eq_ret, wp_deviceId]
  iintro ⟨⟨#HR, HO, HA2, HA6, HA7, HA8, HA3⟩, Hk⟩
  iapply (step_send_wait X K c 2 sendE_2 pcE_0_0) $$ [HO HA2]
  · isplitr; · iexact HR
    isplitl [HO] <;> iassumption
  iintro ⟨HO, HA2, HS2⟩
  iapply (step_send_wait X K c 6 sendE_6 pcE_4_0) $$ [HO HA6]
  · isplitr; · iexact HR
    isplitl [HO] <;> iassumption
  iintro ⟨HO, HA6, HS6⟩
  iapply (step_send_wait X K c 7 sendE_7 pcE_4_0) $$ [HO HA7]
  · isplitr; · iexact HR
    isplitl [HO] <;> iassumption
  iintro ⟨HO, HA7, HS7⟩
  iapply (step_send_wait X K c 8 sendE_8 pcE_4_0) $$ [HO HA8]
  · isplitr; · iexact HR
    isplitl [HO] <;> iassumption
  iintro ⟨HO, HA8, HS8⟩
  iapply (step_send_wait X K c 3 sendE_3 pcE_0_1) $$ [HO HA3]
  · isplitr; · iexact HR
    isplitl [HO] <;> iassumption
  iintro ⟨HO, HA3, HS3⟩
  rw [wp_ret]; imodintro
  iapply Hk
  isplitl [HO]; · iexact HO
  isplitl [HA2]; · iexact HA2
  isplitl [HS2]; · iexact HS2
  isplitl [HA6]; · iexact HA6
  isplitl [HS6]; · iexact HS6
  isplitl [HA7]; · iexact HA7
  isplitl [HS7]; · iexact HS7
  isplitl [HA8]; · iexact HA8
  isplitl [HS8]; · iexact HS8
  isplitl [HA3]; · iexact HA3
  iexact HS3

end Cert.Talk

end
-- ==== Proof.Body.lean ====
/-
# The body

The sixteen parts put together: from the scratch buffer at any contents and the rights of the protocol, the result is stored,
every own cell is closed, and the scratch buffer holds the partial sums.
-/
module

public import proofs.«01_k».proof.Proof.PartsB

@[expose] public section

set_option maxRecDepth 16384
set_option maxHeartbeats 1000000

noncomputable section

namespace Cert.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → XTy F) (K : Dev nD × Fin 26 → ℕ) (c : Dev nD)

/-- A family of twelve, written out. -/
theorem bigSep_twelve (Φ : Fin 12 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

/-- The whole scratch buffer is its two halves. -/
theorem scratch_halves (f : ScTy F) :
    ((((c : Thread nD τ).loc cc0_scratch0) ↦{fullShare} (f : Buf (Elt F) ((c : Thread nD τ).loc cc0_scratch0))) : sProp 𝕄)
      ⊣⊢ iprop(P c 0 8 0 fullShare f ∗ P c 0 8 1 fullShare f) := by
  have h : ((((c : Thread nD τ).loc cc0_scratch0) ↦[band 0 8 0 ∪ band 0 8 1]{fullShare} (f : Buf (Elt F) ((c : Thread nD τ).loc cc0_scratch0))) : sProp 𝕄)
      ⊣⊢ iprop(P c 0 8 0 fullShare f ∗ P c 0 8 1 fullShare f) := by
    unfold P; exact pointsTo_union (half_disjoint 0 8)
  rw [half_union] at h
  exact h

/-- A half is its eight slots. -/
theorem slots (h : ℕ) (f : ScTy F) : (P c 0 8 h fullShare f : sProp 𝕄) ⊢ iprop(P c 0 1 h fullShare f ∗ P c 1 2 h fullShare f ∗ P c 2 3 h fullShare f ∗ P c 3 4 h fullShare f ∗ P c 4 5 h fullShare f ∗ P c 5 6 h fullShare f ∗ P c 6 7 h fullShare f ∗ P c 7 8 h fullShare f) := by
  iintro H
  ihave H := (P_join c fullShare f (by decide : 0 ≤ 1) (by decide : 1 ≤ 8)).1 $$ H
  icases H with ⟨H0, H⟩
  ihave H := (P_join c fullShare f (by decide : 1 ≤ 2) (by decide : 2 ≤ 8)).1 $$ H
  icases H with ⟨H1, H⟩
  ihave H := (P_join c fullShare f (by decide : 2 ≤ 3) (by decide : 3 ≤ 8)).1 $$ H
  icases H with ⟨H2, H⟩
  ihave H := (P_join c fullShare f (by decide : 3 ≤ 4) (by decide : 4 ≤ 8)).1 $$ H
  icases H with ⟨H3, H⟩
  ihave H := (P_join c fullShare f (by decide : 4 ≤ 5) (by decide : 5 ≤ 8)).1 $$ H
  icases H with ⟨H4, H⟩
  ihave H := (P_join c fullShare f (by decide : 5 ≤ 6) (by decide : 6 ≤ 8)).1 $$ H
  icases H with ⟨H5, H⟩
  ihave H := (P_join c fullShare f (by decide : 6 ≤ 7) (by decide : 7 ≤ 8)).1 $$ H
  icases H with ⟨H6, H⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H

/-- The slots a half is left in, as the whole half. -/
theorem regroup_half (h : ℕ) (f : ScTy F) :
    iprop(P c 0 1 h fullShare f ∗ P c 1 4 h fullShare f ∗ P c 4 5 h fullShare f ∗ P c 5 8 h fullShare f) ⊢ (P c 0 8 h fullShare f : sProp 𝕄) := by
  iintro ⟨H0, H1, H2, H3⟩
  iapply (P_join c fullShare f (by decide : 0 ≤ 1) (by decide : 1 ≤ 8)).2
  isplitl [H0]; · iexact H0
  iapply (P_join c fullShare f (by decide : 1 ≤ 4) (by decide : 4 ≤ 8)).2
  isplitl [H1]; · iexact H1
  iapply (P_join c fullShare f (by decide : 4 ≤ 5) (by decide : 5 ≤ 8)).2
  isplitl [H2] <;> iassumption

/-- The two halves of slot `s`, owned whole, are what the barrier unit to peer `k` hands over. -/
theorem hand_intro (k : Fin 6) (s : ℕ) (hs : (sl (op k)).val = s) (f : ScTy F) :
    iprop(P c s (s + 1) 0 fullShare f ∗ P c s (s + 1) 1 fullShare f) ⊢ (handP c k : sProp 𝕄) := by
  unfold handP; rw [hs]
  iintro ⟨H0, H1⟩
  iexists f
  isplitl [H0] <;> iassumption

/-- The rights and credits that a device starts with. -/
def startG : sProp 𝕄 :=
  iprop((bigSep Finset.univ fun k : Fin 6 => sigTok c k) ∗ (bigSep Finset.univ fun k : Fin 6 => exitTok c k)
    ∗ (bigSep Finset.univ fun n : Fin 12 => copyTok c n) ∗ (bigSep Finset.univ fun n : Fin 12 => snd0 c n)
    ∗ (bigSep Finset.univ fun n : Fin 12 => rcv0 c n)
    ∗ atPos ER (barCell c) 0 ∅ 0 ∗ cred (tallyAt (barCell c) () 6) ∗ atPos ER (exitCell c) 0 ∅ 0 ∗ cred (tallyAt (exitCell c) () 6))

/-- Every one of its semaphores at zero. -/
def endG : sProp 𝕄 :=
  iprop(semVal (barCell c) 0 ∗ semVal (exitCell c) 0 ∗ (bigSep Finset.univ fun n : Fin 12 => snd2 c n) ∗ (bigSep Finset.univ fun n : Fin 12 => rcv1 c n))

variable (t : (⟨S4x128, .bf16⟩ : BufTy).Contents (Elt F)) (ws wh : (⟨S128x256, .bf16⟩ : BufTy).Contents (Elt F)) (g4 : XTy F)

/-- What a device leaves as its block of the result. -/
def outOf : XTy F :=
  k0_pay14 (k0_pay1 (X c)) (k0_pay10 (k0_pay4 t ws)) (k0_pay11 (k0_pay5 t wh))
    (k0_pay13 (k0_pay8 (plane4 X c 1)) (k0_pay12 (k0_pay6 (plane4 X c 0)) (col3 X c 0)) (col3 X c 1))

/-- The whole body of device `c`. -/
theorem body (f0 : ScTy F) (Kt : PUnit → sProp 𝕄) :
    iprop((records X K ∗ levAts L lv ∗ Ow c 24 ∗ startG c ∗ (((c : Thread nD τ).loc cc0_scratch0) ↦{fullShare} (f0 : Buf (Elt F) ((c : Thread nD τ).loc cc0_scratch0)))
        ∗ stgP c cc0_stg0_0 (X c) ∗ stgP c cc0_stg1_0 t ∗ stgP c cc0_stg2_0 ws ∗ stgP c cc0_stg3_0 wh ∗ stgP c cc0_stg4_0 g4)
      ∗ ((Ow c 0 ∗ endG c ∗ (((c : Thread nD τ).loc cc0_scratch0) ↦{fullShare} (scr X c : Buf (Elt F) ((c : Thread nD τ).loc cc0_scratch0)))
        ∗ stgP c cc0_stg0_0 (X c) ∗ stgP c cc0_stg1_0 t ∗ stgP c cc0_stg2_0 ws ∗ stgP c cc0_stg3_0 wh ∗ stgP c cc0_stg4_0 (outOf X c t ws wh)) -∗ Kt ⟨⟩))
      ⊢ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scoped0) Kt := by
  rw [cc0_body_eq_skeleton]; unfold cc0_body_skel
  rw [k0_part16_eq_skeleton]; unfold k0_part16_skel
  unfold startG endG; simp only [bigSep_six, bigSep_twelve]
  rw [wp_bind, wp_bind]
  refine part1 c _ _ (fun v24 v27 v30 v32 v34 v35 v => ?_)
  iintro ⟨⟨#HR, #Hl, HO, HG, Hscr, HX0, HX1, HX2, HX3, HX4⟩, Hk⟩
  icases HG with ⟨HT6, HE6, HC12, HS12, HV12, HB, HBc, HEx, HExc⟩
  icases HT6 with ⟨HTs0, HTs1, HTs2, HTs3, HTs4, HTs5⟩
  icases HE6 with ⟨HTe0, HTe1, HTe2, HTe3, HTe4, HTe5⟩
  icases HC12 with ⟨HT0, HT1, HT2, HT3, HT4, HT5, HT6, HT7, HT8, HT9, HT10, HT11⟩
  icases HS12 with ⟨HA0, HA1, HA2, HA3, HA4, HA5, HA6, HA7, HA8, HA9, HA10, HA11⟩
  icases HV12 with ⟨HV0, HV1, HV2, HV3, HV4, HV5, HV6, HV7, HV8, HV9, HV10, HV11⟩
  ihave Hscr := (scratch_halves c f0).1 $$ Hscr
  icases Hscr with ⟨H0, H1⟩
  ihave H0 := (slots c 0 f0) $$ H0
  icases H0 with ⟨HZ00, HZ10, HZ20, HZ30, HZ40, HZ50, HZ60, HZ70⟩
  ihave H1 := (slots c 1 f0) $$ H1
  icases H1 with ⟨HZ01, HZ11, HZ21, HZ31, HZ41, HZ51, HZ61, HZ71⟩
  ihave HP2 := (hand_intro c 2 1 rfl f0) $$ [HZ10 HZ11]
  · isplitl [HZ10] <;> iassumption
  ihave HP1 := (hand_intro c 1 2 rfl f0) $$ [HZ20 HZ21]
  · isplitl [HZ20] <;> iassumption
  ihave HP0 := (hand_intro c 0 3 rfl f0) $$ [HZ30 HZ31]
  · isplitl [HZ30] <;> iassumption
  ihave HP5 := (hand_intro c 5 5 rfl f0) $$ [HZ50 HZ51]
  · isplitl [HZ50] <;> iassumption
  ihave HP4 := (hand_intro c 4 6 rfl f0) $$ [HZ60 HZ61]
  · isplitl [HZ60] <;> iassumption
  ihave HP3 := (hand_intro c 3 7 rfl f0) $$ [HZ70 HZ71]
  · isplitl [HZ70] <;> iassumption
  rw [wp_bind]
  iapply (part2 X K c f0 v24 v27 v30 v32 v34 v35 v _)
  isplitl [HO HTs0 HTs1 HTs2 HTs3 HTs4 HTs5 HP0 HP1 HP2 HP3 HP4 HP5 HX0 HZ00]
  · isplitr; · iexact HR
    isplitl [HO]; · iexact HO
    isplitl [HTs0]; · iexact HTs0
    isplitl [HTs1]; · iexact HTs1
    isplitl [HTs2]; · iexact HTs2
    isplitl [HTs3]; · iexact HTs3
    isplitl [HTs4]; · iexact HTs4
    isplitl [HTs5]; · iexact HTs5
    isplitl [HP0]; · iexact HP0
    isplitl [HP1]; · iexact HP1
    isplitl [HP2]; · iexact HP2
    isplitl [HP3]; · iexact HP3
    isplitl [HP4]; · iexact HP4
    isplitl [HP5]; · iexact HP5
    isplitl [HX0]; · iexact HX0
    iexact HZ00
  iintro ⟨HO, HX0, HZ00⟩
  rw [wp_bind]
  iapply (part3 X K c f0 f0 v24 v27 _)
  isplitl [HO HZ00 HZ01 HB HBc HT0 HA0]
  · isplitr; · iexact HR
    isplitr; · iexact Hl
    isplitl [HO]; · iexact HO
    isplitl [HZ00]; · iexact HZ00
    isplitl [HZ01]; · iexact HZ01
    isplitl [HB]; · iexact HB
    isplitl [HBc]; · iexact HBc
    isplitl [HT0]; · iexact HT0
    iexact HA0
  iintro ⟨HO, HE0, HE1, HB, HA0, HS1, HS2, HD1, HD2, HD3, HD4, HD5, HD6, HD7, HD8, HD9, HD10, HD11⟩
  rw [wp_bind]
  iapply (part4 X K c v24 v27 v30 _)
  isplitl [HO HS1 HS2 HE1 HD1 HT1 HA1 HD2 HT2 HA2 HD3 HT3 HA3]
  · isplitr; · iexact HR
    isplitl [HO]; · iexact HO
    isplitl [HS1]; · iexact HS1
    isplitl [HS2]; · iexact HS2
    isplitl [HE1]; · iexact HE1
    isplitl [HD1]; · iexact HD1
    isplitl [HT1]; · iexact HT1
    isplitl [HA1]; · iexact HA1
    isplitl [HD2]; · iexact HD2
    isplitl [HT2]; · iexact HT2
    isplitl [HA2]; · iexact HA2
    isplitl [HD3]; · iexact HD3
    isplitl [HT3]; · iexact HT3
    iexact HA3
  iintro ⟨HO, HE1, HS4, HS5, HA1, HA2, HA3⟩
  rw [wp_bind]
  iapply (part5 X K c t ws wh v24 v30 _)
  isplitl [HO HS4 HS5 HD4 HT4 HA4 HD5 HT5 HA5 HX1 HX2 HX3]
  · isplitr; · iexact HR
    isplitl [HO]; · iexact HO
    isplitl [HS4]; · iexact HS4
    isplitl [HS5]; · iexact HS5
    isplitl [HD4]; · iexact HD4
    isplitl [HT4]; · iexact HT4
    isplitl [HA4]; · iexact HA4
    isplitl [HD5]; · iexact HD5
    isplitl [HT5]; · iexact HT5
    isplitl [HA5]; · iexact HA5
    isplitl [HX1]; · iexact HX1
    isplitl [HX2]; · iexact HX2
    iexact HX3
  iintro ⟨HO, HA4, HA5, HX1, HX2, HX3⟩
  rw [wp_bind]
  iapply (part6 X K c f0 v27 v30 _)
  isplitl [HO HE0 HZ40 HV0 HV1 HV2]
  · isplitr; · iexact HR
    isplitr; · iexact Hl
    isplitl [HO]; · iexact HO
    isplitl [HE0]; · iexact HE0
    isplitl [HZ40]; · iexact HZ40
    isplitl [HV0]; · iexact HV0
    isplitl [HV1]; · iexact HV1
    iexact HV2
  iintro ⟨HO, HE0, HG0, HF0, HV0, HV1, HV2⟩
  rw [wp_bind]
  iapply (part7 X K c v32 v34 _ _)
  isplitl [HO HF0 HD6 HT6 HA6 HD7 HT7 HA7]
  · isplitr; · iexact HR
    isplitl [HO]; · iexact HO
    isplitl [HF0]; · iexact HF0
    isplitl [HD6]; · iexact HD6
    isplitl [HT6]; · iexact HT6
    isplitl [HA6]; · iexact HA6
    isplitl [HD7]; · iexact HD7
    isplitl [HT7]; · iexact HT7
    iexact HA7
  iintro ⟨HO, HF0, HS8, HA6, HA7⟩
  rw [wp_bind]
  iapply (part8 X K c v24 v27 v30 _)
  isplitl [HO HS8 HD8 HT8 HA8 HV3 HV4 HV5]
  · isplitr; · iexact HR
    isplitr; · iexact Hl
    isplitl [HO]; · iexact HO
    isplitl [HS8]; · iexact HS8
    isplitl [HD8]; · iexact HD8
    isplitl [HT8]; · iexact HT8
    isplitl [HA8]; · iexact HA8
    isplitl [HV3]; · iexact HV3
    isplitl [HV4]; · iexact HV4
    iexact HV5
  iintro ⟨HO, HA8, HV3, HV4, HV5, HG3, HG4, HG5⟩
  rw [wp_bind]
  iapply (part9 X K c f0 v32 v34 _)
  isplitl [HO HE1 HZ41 HG3 HG4 HG5 HD9 HT9 HA9 HD10 HT10 HA10]
  · isplitr; · iexact HR
    isplitl [HO]; · iexact HO
    isplitl [HE1]; · iexact HE1
    isplitl [HZ41]; · iexact HZ41
    isplitl [HG3]; · iexact HG3
    isplitl [HG4]; · iexact HG4
    isplitl [HG5]; · iexact HG5
    isplitl [HD9]; · iexact HD9
    isplitl [HT9]; · iexact HT9
    isplitl [HA9]; · iexact HA9
    isplitl [HD10]; · iexact HD10
    isplitl [HT10]; · iexact HT10
    iexact HA10
  iintro ⟨HO, HE1, HG1, HF1, HS11, HA9, HA10⟩
  rw [wp_bind]
  iapply (part10 X K c v32 v34 _ _ _ _)
  isplitl [HO HS11 HD11 HT11 HA11 HV6]
  · isplitr; · iexact HR
    isplitr; · iexact Hl
    isplitl [HO]; · iexact HO
    isplitl [HS11]; · iexact HS11
    isplitl [HD11]; · iexact HD11
    isplitl [HT11]; · iexact HT11
    isplitl [HA11]; · iexact HA11
    iexact HV6
  iintro ⟨HO, HA11, HV6, HG6⟩
  rw [wp_bind]
  iapply (part11 X K c v32 v34 _ _ _)
  isplitl [HO HG6 HV7 HV8 HV9]
  · isplitr; · iexact HR
    isplitr; · iexact Hl
    isplitl [HO]; · iexact HO
    isplitl [HG6]; · iexact HG6
    isplitl [HV7]; · iexact HV7
    isplitl [HV8]; · iexact HV8
    iexact HV9
  iintro ⟨HO, HC0, HV7, HV8, HV9, HG9⟩
  rw [wp_bind]
  iapply (part12 X K c _ _ _ _)
  isplitl [HO HG9 HV10 HV11]
  · isplitr; · iexact HR
    isplitr; · iexact Hl
    isplitl [HO]; · iexact HO
    isplitl [HG9]; · iexact HG9
    isplitl [HV10]; · iexact HV10
    iexact HV11
  iintro ⟨HO, HC1, HV10, HV11⟩
  rw [wp_bind]
  iapply (part13 X K c v24 v27 v30 v32 v34 _ _)
  isplitl [HO HTe0 HTe1 HTe2 HTe3 HTe4 HTe5]
  · isplitr; · iexact HR
    isplitl [HO]; · iexact HO
    isplitl [HTe0]; · iexact HTe0
    isplitl [HTe1]; · iexact HTe1
    isplitl [HTe2]; · iexact HTe2
    isplitl [HTe3]; · iexact HTe3
    isplitl [HTe4]; · iexact HTe4
    iexact HTe5
  iintro ⟨HO⟩
  rw [wp_bind]
  iapply (part14 X K c g4 _ _ _ _ _)
  isplitl [HO HX4 HA0 HA1]
  · isplitr; · iexact HR
    isplitl [HO]; · iexact HO
    isplitl [HX4]; · iexact HX4
    isplitl [HA0]; · iexact HA0
    iexact HA1
  iintro ⟨HO, HX4, HA0, HS0, HA1, HS1⟩
  rw [wp_bind]
  iapply (part15 X K c _)
  isplitl [HO HA2 HA6 HA7 HA8 HA3]
  · isplitr; · iexact HR
    isplitl [HO]; · iexact HO
    isplitl [HA2]; · iexact HA2
    isplitl [HA6]; · iexact HA6
    isplitl [HA7]; · iexact HA7
    isplitl [HA8]; · iexact HA8
    iexact HA3
  iintro ⟨HO, HA2, HS2, HA6, HS6, HA7, HS7, HA8, HS8, HA3, HS3⟩
  simp only [semSignalWord, semWaitWord, Prog.lift, Prog.bind_op, Prog.bind_ret, Prog.pure_eq_ret, wp_deviceId]
  iapply (step_send_wait X K c 4 sendE_4 pcE_0_1) $$ [HO HA4]
  · isplitr; · iexact HR
    isplitl [HO] <;> iassumption
  iintro ⟨HO, HA4, HS4⟩
  iapply (step_send_wait X K c 5 sendE_5 pcE_0_1) $$ [HO HA5]
  · isplitr; · iexact HR
    isplitl [HO] <;> iassumption
  iintro ⟨HO, HA5, HS5⟩
  iapply (step_send_wait X K c 9 sendE_9 pcE_4_1) $$ [HO HA9]
  · isplitr; · iexact HR
    isplitl [HO] <;> iassumption
  iintro ⟨HO, HA9, HS9⟩
  iapply (step_send_wait X K c 10 sendE_10 pcE_4_1) $$ [HO HA10]
  · isplitr; · iexact HR
    isplitl [HO] <;> iassumption
  iintro ⟨HO, HA10, HS10⟩
  rw [wp_ret]; imodintro
  iapply (step_send_wait X K c 11 sendE_11 pcE_4_1) $$ [HO HA11]
  · isplitr; · iexact HR
    isplitl [HO] <;> iassumption
  iintro ⟨HO, HA11, HS11⟩
  iapply (step_exit_wait X K c) $$ [HO HEx HExc]
  · isplitr; · iexact HR
    isplitl [HO]; · iexact HO
    isplitl [HEx] <;> iassumption
  iintro ⟨HO, HEx⟩
  rw [wp_ret]; imodintro
  iapply Hk
  isplitl [HO]; · iexact HO
  isplitl [HB HEx HA0 HA1 HA2 HA3 HA4 HA5 HA6 HA7 HA8 HA9 HA10 HA11 HV0 HV1 HV2 HV3 HV4 HV5 HV6 HV7 HV8 HV9 HV10 HV11]
  · isplitl [HB]; · iexact HB
    isplitl [HEx]; · iexact HEx
    isplitl [HA0 HA1 HA2 HA3 HA4 HA5 HA6 HA7 HA8 HA9 HA10 HA11]
    · isplitl [HA0]; · iexact HA0
      isplitl [HA1]; · iexact HA1
      isplitl [HA2]; · iexact HA2
      isplitl [HA3]; · iexact HA3
      isplitl [HA4]; · iexact HA4
      isplitl [HA5]; · iexact HA5
      isplitl [HA6]; · iexact HA6
      isplitl [HA7]; · iexact HA7
      isplitl [HA8]; · iexact HA8
      isplitl [HA9]; · iexact HA9
      isplitl [HA10]; · iexact HA10
      iexact HA11
    isplitl [HV0]; · iexact HV0
    isplitl [HV1]; · iexact HV1
    isplitl [HV2]; · iexact HV2
    isplitl [HV3]; · iexact HV3
    isplitl [HV4]; · iexact HV4
    isplitl [HV5]; · iexact HV5
    isplitl [HV6]; · iexact HV6
    isplitl [HV7]; · iexact HV7
    isplitl [HV8]; · iexact HV8
    isplitl [HV9]; · iexact HV9
    isplitl [HV10]; · iexact HV10
    iexact HV11
  isplitl [HE0 HE1 HG0 HG1 HF0 HF1 HC0 HC1 HS0 HS1 HS2 HS3 HS4 HS5 HS6 HS7 HS8 HS9 HS10 HS11]
  · iapply (scratch_halves c (scr X c)).2
    isplitl [HE0 HG0 HF0 HC0 HS0 HS1 HS2 HS6 HS7 HS8]
    · iapply (regroup_half c 0 (scr X c))
      isplitl [HE0 HS0 HS1 HS2]
      · iapply (lend_0 X c).2
        isplitl [HS0 HS1]
        · isplitl [HS0] <;> iassumption
        isplitl [HS2] <;> iassumption
      isplitl [HG0]; · iexact HG0
      isplitl [HF0 HS6 HS7 HS8]
      · iapply (lend_2 X c).2
        isplitl [HS6 HS7]
        · isplitl [HS6] <;> iassumption
        isplitl [HS8] <;> iassumption
      iexact HC0
    iapply (regroup_half c 1 (scr X c))
    isplitl [HE1 HS3 HS4 HS5]
    · iapply (lend_1 X c).2
      isplitl [HS3 HS4]
      · isplitl [HS3] <;> iassumption
      isplitl [HS5] <;> iassumption
    isplitl [HG1]; · iexact HG1
    isplitl [HF1 HS9 HS10 HS11]
    · iapply (lend_3 X c).2
      isplitl [HS9 HS10]
      · isplitl [HS9] <;> iassumption
      isplitl [HS11] <;> iassumption
    iexact HC1
  isplitl [HX0]; · iexact HX0
  isplitl [HX1]; · iexact HX1
  isplitl [HX2]; · iexact HX2
  isplitl [HX3]; · iexact HX3
  unfold outOf; iexact HX4

end Cert.Talk

end
-- ==== Proof.At.lean ====
/-
# The kernel's result at an index, over the extended reals
-/
module

public import proofs.«01_k».proof.Proof.Body
public import Idealize.ShloMosaic.Lib.Pointwise

@[expose] public section

set_option maxRecDepth 16384

noncomputable section

namespace Cert.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The reading index of row `b`, lane `l` is the one with a unit axis in front. -/
theorem ix1_eq (b : Fin 8) (l : Fin 512) : ix1 b l = (ix3 (⟨0, Nat.one_pos⟩ : Fin 1) b l : S1x8x512.Idx) := by
  funext a
  match a with
  | ⟨0, _⟩ => rfl
  | ⟨1, _⟩ => rfl
  | ⟨2, _⟩ => rfl

/-- A row's sum on one device: rows 0 to 3 the sum, rows 4 to 7 the sum of squares. -/
def part (x : XTy Ideal) (r : Fin 8) (s : Fin 1024) : EReal :=
  if h : r.val < 4 then ∑ k : Fin 256, x (ix3 (⟨r.val, h⟩ : Fin 4) s k)
  else ∑ k : Fin 256, x (ix3 (⟨r.val - 4, by omega⟩ : Fin 4) s k) * x (ix3 (⟨r.val - 4, by omega⟩ : Fin 4) s k)

variable (X : Dev nD → XTy Ideal)

/-- The first half of a device's partial sums. -/
theorem st0_at (d : Dev nD) (r : Fin 8) (l : Fin 512) : st X d 0 (ix1 r l) = part (X d) r ⟨l.val, by omega⟩ := by
  show k0_pay2 (F := Ideal) (X d) (ix1 r l) = _
  unfold part
  rw [ix1_eq]
  pointwise [k0_pay2, k0_pay1]

/-- The second half. -/
theorem st1_at (d : Dev nD) (r : Fin 8) (l : Fin 512) : st X d 1 (ix1 r l) = part (X d) r ⟨512 + l.val, by omega⟩ := by
  show k0_pay3 (F := Ideal) (k0_pay1 (X d)) (ix1 r l) = _
  unfold part
  rw [ix1_eq]
  pointwise [k0_pay3, k0_pay1]

/-- Adding up the four slots of a plane. -/
theorem pay6_at (p : S4x8x512.Idx → Elt Ideal .bf16) (r : Fin 8) (l : Fin 512) :
    k0_pay6 (F := Ideal) p (ix2 r l) = ∑ x : Fin 4, p (ix3 x r l) := by pointwise [k0_pay6]
/-- The second half's plane sums, at an index: the sum over the four slots. -/
theorem pay8_at (p : S4x8x512.Idx → Elt Ideal .bf16) (r : Fin 8) (l : Fin 512) :
    k0_pay8 (F := Ideal) p (ix2 r l) = ∑ x : Fin 4, p (ix3 x r l) := by pointwise [k0_pay8]
/-- The first half's plane sums as stored in slot 4, at an index: the sum over the four slots. -/
theorem pay7_at (p : S4x8x512.Idx → Elt Ideal .bf16) (r : Fin 8) (l : Fin 512) :
    k0_pay7 (F := Ideal) p (ix1 r l) = ∑ x : Fin 4, p (ix3 x r l) := by rw [ix1_eq]; pointwise [k0_pay7, k0_pay6]
/-- The second half's plane sums as stored in slot 4, at an index: the sum over the four slots. -/
theorem pay9_at (p : S4x8x512.Idx → Elt Ideal .bf16) (r : Fin 8) (l : Fin 512) :
    k0_pay9 (F := Ideal) p (ix1 r l) = ∑ x : Fin 4, p (ix3 x r l) := by rw [ix1_eq]; pointwise [k0_pay9, k0_pay8]

/-- A plane's sums, either half. -/
theorem pt0_at (d : Dev nD) (r : Fin 8) (l : Fin 512) : pt X d 0 (ix1 r l) = ∑ x : Fin 4, part (X (pp x.val d)) r ⟨l.val, by omega⟩ := by
  show k0_pay7 (F := Ideal) (plane4 X d 0) (ix1 r l) = _
  rw [pay7_at]
  exact Finset.sum_congr rfl fun x _ => st0_at X _ r l
/-- The second half's plane sums of device `d`: the sum of the parts of its plane's devices. -/
theorem pt1_at (d : Dev nD) (r : Fin 8) (l : Fin 512) : pt X d 1 (ix1 r l) = ∑ x : Fin 4, part (X (pp x.val d)) r ⟨512 + l.val, by omega⟩ := by
  show k0_pay9 (F := Ideal) (plane4 X d 1) (ix1 r l) = _
  rw [pay9_at]
  exact Finset.sum_congr rfl fun x _ => st1_at X _ r l

/-- The planes and the places in them reach every device once. -/
theorem reach_inj (c : Dev nD) : ∀ y x y' x' : Fin 4, pp x.val (co y.val c) = pp x'.val (co y'.val c) → y = y' ∧ x = x' := by
  revert c; decide +kernel

/-- The own plane's sum and the three others' are the sum over the mesh. -/
theorem mesh_sum (f : Dev nD → EReal) (c : Dev nD) :
    ∑ x : Fin 4, f (pp x.val c) + ∑ y : Fin 3, ∑ x : Fin 4, f (pp x.val (co (y.val + 1) c)) = ∑ d : Dev nD, f d := by
  have hb : Function.Bijective (fun q : Fin 4 × Fin 4 => (pp q.2.val (co q.1.val c) : Dev nD)) :=
    (Fintype.bijective_iff_injective_and_card _).mpr
      ⟨fun q q' h => Prod.ext (reach_inj c _ _ _ _ h).1 (reach_inj c _ _ _ _ h).2, by decide⟩
  rw [← hb.sum_comp f, Fintype.sum_prod_type]
  refine Eq.trans ?_ (Fin.sum_univ_succ (fun y : Fin 4 => ∑ x : Fin 4, f (pp x.val (co y.val c)))).symm
  rw [show co (0 : Fin 4).val c = c from co_zero c]
  rfl

/-- What the kernel divides by the number of lanes: the sums over the whole mesh. -/
theorem total_at (c : Dev nD) (r : Fin 8) (s : Fin 1024) :
    k0_pay13 (F := Ideal) (k0_pay8 (plane4 X c 1)) (k0_pay12 (k0_pay6 (plane4 X c 0)) (col3 X c 0)) (col3 X c 1) (ix2 r s)
      = ∑ d : Dev nD, part (X d) r s := by
  rw [← mesh_sum (fun d => part (X d) r s) c]
  by_cases h : s.val < 512
  · have e : k0_pay13 (F := Ideal) (k0_pay8 (plane4 X c 1)) (k0_pay12 (k0_pay6 (plane4 X c 0)) (col3 X c 0)) (col3 X c 1) (ix2 r s)
        = k0_pay6 (F := Ideal) (plane4 X c 0) (ix2 r ⟨s.val, h⟩) + ∑ y : Fin 3, col3 X c 0 (ix3 y r (⟨s.val, h⟩ : Fin 512)) := by
      pointwise [k0_pay13, k0_pay12]
      rw [dif_pos h]
    rw [e, pay6_at]
    congr 1
    · exact Finset.sum_congr rfl fun x _ => st0_at X _ r ⟨s.val, h⟩
    · exact Finset.sum_congr rfl fun y _ => pt0_at X _ r ⟨s.val, h⟩
  · have h' : s.val - 512 < 512 := by omega
    have e : k0_pay13 (F := Ideal) (k0_pay8 (plane4 X c 1)) (k0_pay12 (k0_pay6 (plane4 X c 0)) (col3 X c 0)) (col3 X c 1) (ix2 r s)
        = k0_pay8 (F := Ideal) (plane4 X c 1) (ix2 r ⟨s.val - 512, h'⟩) + ∑ y : Fin 3, col3 X c 1 (ix3 y r (⟨s.val - 512, h'⟩ : Fin 512)) := by
      pointwise [k0_pay13, k0_pay12]
      rw [dif_neg h]
    have es : (⟨512 + (s.val - 512), by omega⟩ : Fin 1024) = s := Fin.ext (by show 512 + (s.val - 512) = s.val; omega)
    rw [e, pay8_at]
    congr 1
    · exact Finset.sum_congr rfl fun x _ => (st1_at X _ r ⟨s.val - 512, h'⟩).trans (by rw [es]; rfl)
    · exact Finset.sum_congr rfl fun y _ => (pt1_at X _ r ⟨s.val - 512, h'⟩).trans (by rw [es]; rfl)

/-- The row's sum over the mesh, and its sum of squares. -/
def rowSum (b : Fin 4) (s : Fin 1024) : EReal := ∑ d : Dev nD, ∑ k : Fin 256, X d (ix3 b s k)
/-- A row's sum of squares over the mesh. -/
def rowSq (b : Fin 4) (s : Fin 1024) : EReal := ∑ d : Dev nD, ∑ k : Fin 256, X d (ix3 b s k) * X d (ix3 b s k)

/-- A device's result at an index, over its row's two sums. -/
theorem out_at (c : Dev nD) (t : Vec Ideal S4x128 .bf16) (ws wh : Vec Ideal S128x256 .bf16) (b : Fin 4) (s : Fin 1024) (l : Fin 256) :
    outOf X c t ws wh (ix3 b s l)
      = (X c (ix3 b s l) * Ideal.rsqrt (Ideal.div (rowSq X b s) (Ideal.ofBits .f32 0x45800000#32)
            - Ideal.div (rowSum X b s) (Ideal.ofBits .f32 0x45800000#32) * Ideal.div (rowSum X b s) (Ideal.ofBits .f32 0x45800000#32) + Ideal.ofBits .f32 0x3727C5AC#32)
          - Ideal.div (rowSum X b s) (Ideal.ofBits .f32 0x45800000#32) * Ideal.rsqrt (Ideal.div (rowSq X b s) (Ideal.ofBits .f32 0x45800000#32)
            - Ideal.div (rowSum X b s) (Ideal.ofBits .f32 0x45800000#32) * Ideal.div (rowSum X b s) (Ideal.ofBits .f32 0x45800000#32) + Ideal.ofBits .f32 0x3727C5AC#32))
        * (1 + ∑ k : Fin 128, t (ix2 b k) * ws (ix2 k l)) + ∑ k : Fin 128, t (ix2 b k) * wh (ix2 k l) := by
  have h1 := total_at X c ⟨b.val, by omega⟩ s
  have h2 := total_at X c ⟨4 + b.val, by omega⟩ s
  have e1 : ∀ d, part (X d) ⟨b.val, by omega⟩ s = ∑ k : Fin 256, X d (ix3 b s k) := fun d => by
    unfold part; rw [dif_pos b.isLt]
  have e2 : ∀ d, part (X d) ⟨4 + b.val, by omega⟩ s = ∑ k : Fin 256, X d (ix3 b s k) * X d (ix3 b s k) := fun d => by
    unfold part
    rw [dif_neg (by show ¬ 4 + b.val < 4; omega)]
    have eb : (⟨4 + b.val - 4, by omega⟩ : Fin 4) = b := Fin.ext (by show 4 + b.val - 4 = b.val; omega)
    simp only [eb]
  simp only [e1] at h1
  simp only [e2] at h2
  unfold outOf
  generalize k0_pay13 (F := Ideal) (k0_pay8 (plane4 X c 1)) (k0_pay12 (k0_pay6 (plane4 X c 0)) (col3 X c 0)) (col3 X c 1) = T at h1 h2 ⊢
  pointwise [k0_pay14, k0_pay1, k0_pay10, k0_pay11, k0_pay4, k0_pay5]
  rw [h1, h2]
  rfl

end Cert.Talk

end
-- ==== Proof.Share.lean ====
/-
# The launch: tokens and credits dealt out
-/
module

public import proofs.«01_k».proof.Proof.Body

@[expose] public section

set_option maxRecDepth 16384

noncomputable section

namespace Cert.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The twenty-six semaphores as one family -/

/-- Separation regrouped. -/
theorem assoc3 (P Q R : sProp 𝕄) : iprop((P ∗ Q) ∗ R) = iprop(P ∗ Q ∗ R) := equiv_iff.mp ⟨BI.sep_assoc, BI.sep_assoc'⟩

/-- The twenty-six semaphores are distinct. -/
theorem csem_inj : Function.Injective csem := by
  have h : ∀ k k' : Fin 26, csem k = csem k' → k = k' := by decide +kernel
  exact fun k k' => h k k'

/-- So are the cells of all devices. -/
theorem kcell_injective : Function.Injective (kcell : Dev nD × Fin 26 → GSem nD τ sig) := by
  rintro ⟨c, k⟩ ⟨c', k'⟩ h
  have h1 : c = c' := congrArg (fun g : GSem nD τ sig => g.1.1) h
  have h2 : k = k' := csem_inj (congrArg Prod.snd h)
  rw [h1, h2]

/-- A family over the twenty-six cells, written out. -/
theorem family (Φ : Fin 26 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25) :=
  bigSep_univ_eq_bigSepL [0, 1, 2, 3, 4, 5, 6, 7, 8, 9, 10, 11, 12, 13, 14, 15, 16, 17, 18, 19, 20, 21, 22, 23, 24, 25] (by decide) (by decide) Φ

/-- Its send cells. -/
theorem family_sends (Φ : Fin 26 → sProp 𝕄) :
    (bigSep Finset.univ fun n : Fin 12 => Φ (sk n)) = iprop(Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_twelve _
/-- Its receive cells. -/
theorem family_recvs (Φ : Fin 26 → sProp 𝕄) :
    (bigSep Finset.univ fun n : Fin 12 => Φ (rk n)) = iprop(Φ 14 ∗ Φ 15 ∗ Φ 16 ∗ Φ 17 ∗ Φ 18 ∗ Φ 19 ∗ Φ 20 ∗ Φ 21 ∗ Φ 22 ∗ Φ 23 ∗ Φ 24 ∗ Φ 25) :=
  bigSep_twelve _

/-- Sorted by kind: the barrier, the exit, the sends and the receives. -/
theorem by_kind (Φ : Fin 26 → sProp 𝕄) :
    bigSep Finset.univ Φ = iprop(Φ 0 ∗ Φ 1 ∗ (bigSep Finset.univ fun n : Fin 12 => Φ (sk n)) ∗ (bigSep Finset.univ fun n : Fin 12 => Φ (rk n))) := by
  rw [family, family_sends, family_recvs]
  simp only [assoc3]

/-- A resource of every cell of a device, sorted by kind. -/
theorem cells_by_kind (c : Dev nD) (Φ : GSem nD τ sig → sProp 𝕄) :
    (bigSep Finset.univ fun k : Fin 26 => Φ (kcell (c, k)))
      = iprop(Φ (barCell c) ∗ Φ (exitCell c) ∗ (bigSep Finset.univ fun n : Fin 12 => Φ (sendCell c n)) ∗ (bigSep Finset.univ fun n : Fin 12 => Φ (recvCell c n))) := by
  rw [by_kind]; simp only [kcell_send, kcell_recv]; rfl

/-! ## Duty tokens, from the owner of a cell to its payer -/

/-- The token of a cell's duty, in its first round. -/
abbrev tokOf (ckd : (Dev nD × Fin 26) × Fin 6) : GSem nD τ sig × ℕ × Fin 6 := (kcell ckd.1, 0, ckd.2)
/-- The tokens are distinct. -/
theorem tokOf_injective : Function.Injective tokOf := by
  rintro ⟨ck, d⟩ ⟨ck', d'⟩ h
  have h1 : ck = ck' := kcell_injective (congrArg Prod.fst h)
  have h2 : d = d' := congrArg (fun x : GSem nD τ sig × ℕ × Fin 6 => x.2.2) h
  rw [h1, h2]

/-- All cells of the mesh. -/
def allCells : Finset (GSem nD τ sig) := Finset.univ.map ⟨kcell, kcell_injective⟩
/-- All tokens of the mesh. -/
def allToks : Finset (GSem nD τ sig × ℕ × Fin 6) := Finset.univ.map ⟨tokOf, tokOf_injective⟩

/-- Six tokens for each of a device's own cells. -/
def toks (c : Dev nD) : sProp 𝕄 := bigSep Finset.univ fun k : Fin 26 => bigSep Finset.univ fun d : Fin 6 => dutyTok ER (kcell (c, k)) 0 d

/-- The tokens of the payments that device `c` makes. -/
def payToks (c : Dev nD) : sProp 𝕄 :=
  iprop((bigSep Finset.univ fun k : Fin 6 => sigTok c k) ∗ (bigSep Finset.univ fun k : Fin 6 => exitTok c k) ∗ (bigSep Finset.univ fun n : Fin 12 => copyTok c n))

/-- Peer and direction back: an involution. -/
def turn : Dev nD × Fin 6 ≃ Dev nD × Fin 6 :=
  ⟨fun x => (pr x.2 x.1, op x.2), fun x => (pr x.2 x.1, op x.2), fun x => by simp only [pr_op', op_op], fun x => by simp only [pr_op', op_op]⟩
/-- A device to the one that its copy `n` goes to. -/
def land : Dev nD × Fin 12 ≃ Dev nD × Fin 12 :=
  ⟨fun x => (pr (pk x.2) x.1, x.2), fun x => (pr (op (pk x.2)) x.1, x.2), fun x => by simp only [pr_op'], fun x => by simp only [pr_op]⟩

/-- A family over devices and peers, counted at the other end: each device's peers see it as a peer. -/
theorem turned (Φ : Dev nD → Fin 6 → sProp 𝕄) :
    (bigSep Finset.univ fun c : Dev nD => bigSep Finset.univ fun k : Fin 6 => Φ c k)
      = bigSep Finset.univ fun c : Dev nD => bigSep Finset.univ fun k : Fin 6 => Φ (pr k c) (op k) := by
  rw [← bigSep_univ_prod (fun x : Dev nD × Fin 6 => Φ x.1 x.2), bigSep_univ_equiv turn (fun x : Dev nD × Fin 6 => Φ x.1 x.2), bigSep_univ_prod]; rfl
/-- A family over devices and copies, counted where the copies land. -/
theorem landed (Φ : Dev nD → Fin 12 → sProp 𝕄) :
    (bigSep Finset.univ fun c : Dev nD => bigSep Finset.univ fun n : Fin 12 => Φ c n)
      = bigSep Finset.univ fun c : Dev nD => bigSep Finset.univ fun n : Fin 12 => Φ (pr (pk n) c) n := by
  rw [← bigSep_univ_prod (fun x : Dev nD × Fin 12 => Φ x.1 x.2), bigSep_univ_equiv land (fun x : Dev nD × Fin 12 => Φ x.1 x.2), bigSep_univ_prod]; rfl

/-- Of its own cells' tokens a device passes on all those of the barrier and the exit and the first of each copy's. -/
theorem toks_used (c : Dev nD) : (toks c : sProp 𝕄) ⊢
    iprop((bigSep Finset.univ fun d : Fin 6 => dutyTok ER (barCell c) 0 d) ∗ (bigSep Finset.univ fun d : Fin 6 => dutyTok ER (exitCell c) 0 d)
      ∗ (bigSep Finset.univ fun n : Fin 12 => dutyTok ER (sendCell c n) 0 0) ∗ (bigSep Finset.univ fun n : Fin 12 => dutyTok ER (recvCell c n) 0 0)) := by
  unfold toks
  rw [cells_by_kind c (fun g => bigSep Finset.univ fun d : Fin 6 => (dutyTok ER g 0 d : sProp 𝕄))]
  refine sep_mono_right (sep_mono_right (BIClass.sep_mono ?_ ?_))
  · exact bigSep_mono fun n _ => bigSep_elim (Finset.mem_univ (0 : Fin 6))
  · exact bigSep_mono fun n _ => bigSep_elim (Finset.mem_univ (0 : Fin 6))

/-- Every payer gets its tokens. -/
theorem toks_around : (bigSep Finset.univ fun c : Dev nD => (toks c : sProp 𝕄)) ⊢ bigSep Finset.univ fun c : Dev nD => payToks c := by
  refine (bigSep_mono fun c _ => toks_used c).trans ?_
  unfold payToks copyTok
  simp only [bigSep_sep']
  rw [turned (fun c d => (dutyTok ER (barCell c) 0 d : sProp 𝕄)), turned (fun c d => (dutyTok ER (exitCell c) 0 d : sProp 𝕄)),
    landed (fun c n => (dutyTok ER (recvCell c n) 0 0 : sProp 𝕄))]
  exact BI.Entails.refl _

/-! ## Credits: what the devices together owe a cell -/

/-- What is owed with `s` payments to go, as a sum over them. -/
theorem Or_sum (d : Dev nD) (g : GSem nD τ sig) : ∀ s : ℕ, Or d s g () = ∑ j ∈ Finset.range s, if g = payCell d (23 - j) then payAmt (23 - j) else 0
  | 0 => rfl
  | s + 1 => by
    rw [Finset.sum_range_succ, ← Or_sum d g s]
    unfold Or
    rw [Pi.add_apply, Finsupp.add_apply, tallyAt_apply]
    simp only [and_true]
    cases s <;> rfl

/-- What is owed at the start, as a sum over the payments. -/
theorem owed_sum (d : Dev nD) (g : GSem nD τ sig) : O₀ d g () = ∑ t ∈ Finset.range 24, if g = payCell d t then payAmt t else 0 := by
  unfold O₀
  rw [Or_sum]
  exact Finset.sum_nbij' (fun j => 23 - j) (fun j => 23 - j)
    (fun j hj => by have := Finset.mem_range.mp hj; exact Finset.mem_range.mpr (by omega))
    (fun j hj => by have := Finset.mem_range.mp hj; exact Finset.mem_range.mpr (by omega))
    (fun j hj => by have := Finset.mem_range.mp hj; omega)
    (fun j hj => by have := Finset.mem_range.mp hj; omega) (fun _ _ => rfl)

/-- If payment `t` reaches cell `g` from exactly the devices `w t`, all devices together owe it the amounts of those. -/
theorem owed_all (g : GSem nD τ sig) (p : ℕ → Prop) [DecidablePred p] (w : ℕ → Dev nD) (h : ∀ d t, t < 24 → (g = payCell d t ↔ p t ∧ d = w t)) :
    ∑ d : Dev nD, O₀ d g () = ∑ t ∈ Finset.range 24, if p t then payAmt t else 0 := by
  rw [Finset.sum_congr rfl fun d _ => owed_sum d g, Finset.sum_comm]
  refine Finset.sum_congr rfl fun t ht => ?_
  have ht' := Finset.mem_range.mp ht
  rw [Finset.sum_congr rfl fun d _ => if_congr (h d t ht') rfl rfl]
  by_cases hp : p t
  · rw [if_pos hp, Finset.sum_congr rfl fun d _ => if_congr (show (p t ∧ d = w t) ↔ d = w t from ⟨And.right, fun e => ⟨hp, e⟩⟩) rfl rfl,
      Finset.sum_ite_eq' Finset.univ (w t) fun _ => payAmt t, if_pos (Finset.mem_univ _)]
  · rw [if_neg hp]
    exact Finset.sum_eq_zero fun d _ => if_neg fun e => hp e.1

/-- Which payments of which devices go to a barrier cell. -/
theorem bar_from (c d : Dev nD) (t : ℕ) (ht : t < 24) : barCell c = payCell d t ↔ t < 6 ∧ d = pr (op (Fin.ofNat 6 t)) c := by
  have h : ∀ (c d : Dev nD) (t : Fin 24), (barCell c = payCell d t.val ↔ t.val < 6 ∧ d = pr (op (Fin.ofNat 6 t.val)) c) := by decide +kernel
  exact h c d ⟨t, ht⟩
/-- Which go to an exit cell. -/
theorem exit_from (c d : Dev nD) (t : ℕ) (ht : t < 24) : exitCell c = payCell d t ↔ 18 ≤ t ∧ d = pr (op (Fin.ofNat 6 (t - 18))) c := by
  have h : ∀ (c d : Dev nD) (t : Fin 24), (exitCell c = payCell d t.val ↔ 18 ≤ t.val ∧ d = pr (op (Fin.ofNat 6 (t.val - 18))) c) := by decide +kernel
  exact h c d ⟨t, ht⟩
/-- Which go to a receive cell. -/
theorem recv_from (c d : Dev nD) (n : Fin 12) (t : ℕ) (ht : t < 24) : recvCell c n = payCell d t ↔ t = 6 + n.val ∧ d = pr (op (pk n)) c := by
  have h : ∀ (n : Fin 12) (c d : Dev nD) (t : Fin 24), (recvCell c n = payCell d t.val ↔ t.val = 6 + n.val ∧ d = pr (op (pk n)) c) := by decide +kernel
  exact h n c d ⟨t, ht⟩

/-- The mesh owes a barrier cell six units. -/
theorem owed_bar (c : Dev nD) : ∑ d : Dev nD, O₀ d (barCell c) () = 6 := by
  rw [owed_all (barCell c) (fun t => t < 6) (fun t => pr (op (Fin.ofNat 6 t)) c) fun d t ht => bar_from c d t ht]
  rw [Finset.sum_congr rfl fun t _ => (show (if t < 6 then payAmt t else 0) = if t < 6 then 1 else 0 by
    by_cases h : t < 6 <;> simp only [h, if_true, if_false, payAmt])]
  decide
/-- And an exit cell six units. -/
theorem owed_exit (c : Dev nD) : ∑ d : Dev nD, O₀ d (exitCell c) () = 6 := by
  rw [owed_all (exitCell c) (fun t => 18 ≤ t) (fun t => pr (op (Fin.ofNat 6 (t - 18))) c) fun d t ht => exit_from c d t ht]
  rw [Finset.sum_congr rfl fun t _ => (show (if 18 ≤ t then payAmt t else 0) = if 18 ≤ t then 1 else 0 by
    by_cases h : 18 ≤ t
    · rw [if_pos h, if_pos h]; unfold payAmt; rw [if_neg (by omega), if_neg (by omega)]
    · rw [if_neg h, if_neg h])]
  decide
/-- And a receive cell one copy's credit. -/
theorem owed_recv (c : Dev nD) (n : Fin 12) : ∑ d : Dev nD, O₀ d (recvCell c n) () = N := by
  rw [owed_all (recvCell c n) (fun t => t = 6 + n.val) (fun _ => pr (op (pk n)) c) fun d t ht => recv_from c d n t ht]
  have := n.isLt
  rw [Finset.sum_ite_eq' (Finset.range 24) (6 + n.val) payAmt, if_pos (Finset.mem_range.mpr (by omega))]
  unfold payAmt; rw [if_neg (by omega), if_pos (by omega)]

/-- What the mesh owes a cell is the credit that its owner is given. -/
theorem credit_of (g : GSem nD τ sig) (a : ℕ) (h : ∑ d : Dev nD, O₀ d g () = a) :
    tallyOn g (launchCredit (Pipeline.owing O₀) 0 g) = (tallyAt g () a : CellTallies nD τ sig Unit) := by
  unfold tallyAt; refine congrArg _ (Finsupp.ext fun u => ?_); cases u
  rw [Pipeline.launchCredit_owing, Finsupp.single_eq_same, h]

/-- The credit each device starts with. -/
theorem creds (c : Dev nD) : (Pipeline.launchCred O₀ c : sProp 𝕄) ⊢
    iprop(cred (tallyAt (barCell c) () 6) ∗ cred (tallyAt (exitCell c) () 6) ∗ (bigSep Finset.univ fun n : Fin 12 => cred (tallyAt (recvCell c n) () N))) := by
  unfold Pipeline.launchCred
  refine (bigSep_subset (Finset.subset_univ (Finset.univ.map ⟨csem, csem_inj⟩))).trans ?_
  rw [bigSep_map]
  refine (Entails.of_eq (cells_by_kind c fun g => (cred (tallyOn g (launchCredit (Pipeline.owing O₀) 0 g)) : sProp 𝕄))).trans ?_
  rw [credit_of _ _ (owed_bar c), credit_of _ _ (owed_exit c)]
  iintro ⟨H1, H2, -, H3⟩
  isplitl [H1]; · iexact H1
  isplitl [H2]; · iexact H2
  iapply (show (bigSep Finset.univ fun n : Fin 12 => (cred (tallyOn (recvCell c n) (launchCredit (Pipeline.owing O₀) 0 (recvCell c n))) : sProp 𝕄)) ⊢ bigSep Finset.univ fun n : Fin 12 => cred (tallyAt (recvCell c n) () N) from
    bigSep_mono fun n _ => Entails.of_eq (congrArg cred (credit_of (recvCell c n) N (owed_recv c n))))
  iexact H3

end Cert.Talk

end
-- ==== Proof.Launch.lean ====
/-
# The launch, and the run of the whole mesh
-/
module

public import proofs.«01_k».proof.Proof.Share
public import Idealize.ShloMosaic.Lib.Pipeline.CollectiveSegs

@[expose] public section

set_option maxRecDepth 16384

noncomputable section

namespace Cert.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- The mesh's state at the start. -/
def s₀ : MemSt nD τ sig (Elt F) := ⟨m, fun _ => 0, ρ⟩

/-- What each window's staging buffer holds on device `c`. -/
def xs (c : Dev nD) : XTy F := (win0_0.blk (0 : Fin 1)).view.read (Elt F) (m ((c : Thread nD τ).loc main_arg0))
/-- What the device's staging buffer of `t_emb` holds. -/
def ts (c : Dev nD) : (⟨S4x128, .bf16⟩ : BufTy).Contents (Elt F) := (win0_1.blk (0 : Fin 1)).view.read (Elt F) (m ((c : Thread nD τ).loc main_arg1))
/-- What the device's staging buffer of `W_scale` holds. -/
def wss (c : Dev nD) : (⟨S128x256, .bf16⟩ : BufTy).Contents (Elt F) := (win0_2.blk (0 : Fin 1)).view.read (Elt F) (m ((c : Thread nD τ).loc main_arg2))
/-- What the device's staging buffer of `W_shift` holds. -/
def whs (c : Dev nD) : (⟨S128x256, .bf16⟩ : BufTy).Contents (Elt F) := (win0_3.blk (0 : Fin 1)).view.read (Elt F) (m ((c : Thread nD τ).loc main_arg3))
/-- A device's block of the result. -/
def outAt (c : Dev nD) : XTy F := outOf (xs m) c (ts m c) (wss m c) (whs m c)

/-- Before the body, beside the staged blocks. -/
def start (c : Dev nD) : sProp 𝕄 := iprop((∃ K, records (xs m) K) ∗ levAts L lv ∗ startG c)
/-- What the device holds when its body begins: the protocol's rights and the scratch buffer at any contents. -/
def Φ₀ (c : Dev nD) : sProp 𝕄 := iprop(start m c ∗ ∃ f : Buf (Elt F) ((c : Thread nD τ).loc cc0_scratch0), ((c : Thread nD τ).loc cc0_scratch0) ↦{fullShare} f)
/-- After it. -/
def Φ₁ (c : Dev nD) : sProp 𝕄 := iprop(endG c ∗ ((c : Thread nD τ).loc cc0_scratch0) ↦{fullShare} (scr (xs m) c : Buf (Elt F) ((c : Thread nD τ).loc cc0_scratch0)))

/-- The pipeline's data: each array's contents, what the body stores, and what is held before and after. -/
def dats (_ : Fin 1) (c : Dev nD) : Dat τ (Elt F) Unit ℕ UU ℕ cfg0 c where
  A w := m ((cfg0.win w).arr.view.loc (c : Thread nD τ))
  after w _ := match w with
    | ⟨0, _⟩ => xs m c
    | ⟨1, _⟩ => ts m c
    | ⟨2, _⟩ => wss m c
    | ⟨3, _⟩ => whs m c
    | ⟨4, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The five windows, written out. -/
theorem windows (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) := bigSep_W0 Φ

/-- A staging buffer held whole, at given contents. -/
abbrev stgE (c : Dev nD) (b : Ref sig .tc) (f : b.ty.Contents (Elt F)) : sProp 𝕄 :=
  iprop(∃ g : Buf (Elt F) ((c : Thread nD τ).loc b), ⌜g = f⌝ ∗ (((c : Thread nD τ).loc b) ↦{fullShare} g))

/-- To own the view of a whole buffer is to hold the buffer. -/
theorem whole_owned (c : Dev nD) (b : Ref sig .tc) (f : b.ty.Contents (Elt F)) :
    (owns (Ix := Unit) (Name := ℕ) (U := UU) (Lvl := ℕ) (c : Thread nD τ) (Memref.whole b) fullShare f : sProp 𝕄) = stgE c b f := by
  unfold owns; simp only [Memref.view_whole, View.read_whole, View.set_whole]

/-- What the body takes: the staging buffers filled, the result's at any contents, the scratch and the rights. -/
def pre0 (c : Dev nD) : sProp 𝕄 :=
  iprop(Φ₀ m c ∗ (dats m 0 c).owesAt () t0_0.castSucc
    ∗ (∃ d, stgE c cc0_stg0_0 ((dats m 0 c).before (0 : Fin 5) t0_0 d))
    ∗ (∃ d, stgE c cc0_stg1_0 ((dats m 0 c).before (1 : Fin 5) t0_0 d))
    ∗ (∃ d, stgE c cc0_stg2_0 ((dats m 0 c).before (2 : Fin 5) t0_0 d))
    ∗ (∃ d, stgE c cc0_stg3_0 ((dats m 0 c).before (3 : Fin 5) t0_0 d))
    ∗ (∃ d, stgE c cc0_stg4_0 ((dats m 0 c).before (4 : Fin 5) t0_0 d)))
/-- What the body leaves: the staging buffers with the result stored, the scratch and every cell closed. -/
def post0 (c : Dev nD) : sProp 𝕄 :=
  iprop(Φ₁ m c ∗ (dats m 0 c).owesAt () t0_0.succ
    ∗ stgE c cc0_stg0_0 (xs m c) ∗ stgE c cc0_stg1_0 (ts m c) ∗ stgE c cc0_stg2_0 (wss m c) ∗ stgE c cc0_stg3_0 (whs m c) ∗ stgE c cc0_stg4_0 (outAt m c))

/-- The body finds the block of `x` in its staging buffer. -/
theorem before_0 (c : Dev nD) (d) : (dats m 0 c).before (0 : Fin 5) t0_0 d = xs m c := by unfold Dat.before; rw [if_pos (fetch0_0 t0_0)]; rfl
/-- The body finds `t_emb` in its staging buffer. -/
theorem before_1 (c : Dev nD) (d) : (dats m 0 c).before (1 : Fin 5) t0_0 d = ts m c := by unfold Dat.before; rw [if_pos (fetch0_1 t0_0)]; rfl
/-- The body finds the block of `W_scale` in its staging buffer. -/
theorem before_2 (c : Dev nD) (d) : (dats m 0 c).before (2 : Fin 5) t0_0 d = wss m c := by unfold Dat.before; rw [if_pos (fetch0_2 t0_0)]; rfl
/-- The body finds the block of `W_shift` in its staging buffer. -/
theorem before_3 (c : Dev nD) (d) : (dats m 0 c).before (3 : Fin 5) t0_0 d = whs m c := by unfold Dat.before; rw [if_pos (fetch0_3 t0_0)]; rfl

/-- The body, between the pipeline's two states. -/
theorem sound_body (c : Dev nD) : pre0 m c ⊢ wp frame (wpE (defs₀ (F := F)) 𝒱₀ (c : Thread nD τ) none) Set.univ
    (cc0_body (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_scratch0) (Memref.isWhole_whole _)
      cc0_scratch1 cc0_scratch2 cc0_scoped0) (fun _ => post0 m c) := by
  unfold pre0 Φ₀ start
  simp only [before_0, before_1, before_2, before_3]
  iintro ⟨⟨⟨⟨%K, HR⟩, Hl, HG⟩, %f0, Hscr⟩, Ho, ⟨%d0, %g0, %e0, H0⟩, ⟨%d1, %g1, %e1, H1⟩, ⟨%d2, %g2, %e2, H2⟩, ⟨%d3, %g3, %e3, H3⟩, ⟨%d4, %g4, %e4, H4⟩⟩
  subst e0; subst e1; subst e2; subst e3
  unfold Dat.owesAt Pipeline.owesWithin
  icases Ho with ⟨%W, %hW, HO⟩
  iapply (body (xs m) K c (ts m c) (wss m c) (whs m c) g4 f0 (fun _ => post0 m c))
  isplitr []
  · isplitl [HR]; · iexact HR
    isplitl [Hl]; · iexact Hl
    isplitl [HO]; · unfold Ow; iexists W; iexact HO
    isplitl [HG]; · iexact HG
    isplitl [Hscr]; · iexact Hscr
    isplitl [H0]; · iexact H0
    isplitl [H1]; · iexact H1
    isplitl [H2]; · iexact H2
    isplitl [H3]; · iexact H3
    iexact H4
  · unfold Ow
    iintro ⟨⟨%W', HO⟩, HG, Hscr, H0, H1, H2, H3, H4⟩
    unfold post0 Φ₁ Dat.owesAt Pipeline.owesWithin
    isplitl [HG Hscr]
    · isplitl [HG]; · iexact HG
      iexact Hscr
    isplitl [HO]
    · iexists W'; isplitr; · ipureintro; exact fun _ _ => Or.inl trivial
      iexact HO
    isplitl [H0]; · iexists _; isplitr; · (ipureintro; rfl)
                    iexact H0
    isplitl [H1]; · iexists _; isplitr; · (ipureintro; rfl)
                    iexact H1
    isplitl [H2]; · iexists _; isplitr; · (ipureintro; rfl)
                    iexact H2
    isplitl [H3]; · iexists _; isplitr; · (ipureintro; rfl)
                    iexact H3
    iexists _; isplitr; · (ipureintro; rfl)
    unfold outAt; iexact H4

/-- The body does at the one grid point what the pipeline asks of it. -/
theorem body_obligation (c : Dev nD) : BodyObligation (dats m 0 c) (defs₀ (F := F)) 𝒱₀ () Set.univ := fun t => by
  rw [fin_N0 t]
  rw [windows, windows]
  simp only [whole_owned]
  exact sound_body m c

/-! ## The global step -/

/-- The kernel's own semaphores: all but the barrier's. -/
def osem (k : Fin 25) : SemLoc sig := csem k.succ
/-- They are its own: distinct, and none a staging semaphore. -/
theorem ownSemFacts : Pipeline.OwnSemFacts cfg0.spec osem := by decide +kernel

/-- The ghost state dealt out at the start: the pipeline's and the protocol's. -/
def u₀ : UU := (initOf (Pipeline.cells cfgs cellOf_inj) (Pipeline.launchToks cfgs cellOf_inj), initOf allCells allToks)

/-- A device's share of the protocol's ghost state: its cells' records and the tokens of their duties. -/
def G (c : Dev nD) : sProp 𝕄 :=
  iprop((bigSep Finset.univ fun k : Fin 26 => roundState ER (Rd (xs m)) (kcell (c, k)) 0)
    ∗ (bigSep Finset.univ fun k : Fin 26 => iprop(atPos ER (kcell (c, k)) 0 ∅ 0 ∗ reached ER (kcell (c, k)) 0)) ∗ toks c)
/-- A device's positions in its own cells, with the tokens of the payments it makes. -/
def mine (c : Dev nD) : sProp 𝕄 := iprop((bigSep Finset.univ fun k : Fin 26 => atPos ER (kcell (c, k)) 0 ∅ 0) ∗ payToks c)
/-- A device's share once the cells are allocated: the records of all cells, and the device's own rights. -/
def G' (c : Dev nD) : sProp 𝕄 := iprop((∃ K, records (xs m) K) ∗ mine c)

/-- The protocol's ghost state deals out to the devices. -/
theorem deal : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 26 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod, bigSep_univ_prod]; rfl
  iintro HX
  imod (Rounds.fund ER (Rd (xs m)) allCells allToks) $$ HX with ⟨Hst, Hr, Hat, Htok⟩
  imodintro
  ihave Hst := (Entails.of_eq (hX fun g => roundState ER (Rd (xs m)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-- The only semaphore outside the kernel's scope is the barrier's. -/
theorem barrier_sem (c : Dev nD) : (unscopedSems0 c : sProp 𝕄) = semVal (barCell c) 0 := by
  unfold unscopedSems0; rw [bigSep_eq_bigSepL_of_eq [SemLoc.reg barS] (by decide) (by decide)]; rfl

/-- The kernel's own semaphores at zero, listed. -/
theorem own_sems (c : Dev nD) : (Pipeline.ownSems0 (Ix := Unit) (Name := ℕ) (U := UU) (Lvl := ℕ) (Val := Elt F) (τ := τ) osem c : sProp 𝕄)
    = bigSepL [0, 1, 2, 3, 4, 5, 6, 7, 8, 9, 10, 11, 12, 13, 14, 15, 16, 17, 18, 19, 20, 21, 22, 23, 24] fun k : Fin 25 => semVal ((c : Thread nD τ), osem k) 0 :=
  Pipeline.ownSems0_eq_of_list c osem _ (by decide) (by decide)

/-- The barrier's and the kernel's own semaphores are the twenty-six. -/
theorem all_sems (c : Dev nD) :
    (bigSep Finset.univ fun k : Fin 26 => semVal (kcell (c, k)) 0 : sProp 𝕄)
      = iprop(unscopedSems0 c ∗ Pipeline.ownSems0 (Ix := Unit) (Name := ℕ) (U := UU) (Lvl := ℕ) (Val := Elt F) (τ := τ) osem c) := by
  rw [own_sems, barrier_sem, family]; rfl

/-- From its semaphores at zero and its ghost state a device allocates its twenty-six cells. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd (xs m)) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (all_sems (F := F) c).symm) $$ [Hos Hus]
  · isplitl [Hus] <;> iassumption
  imod (show iprop((bigSep Finset.univ fun k : Fin 26 => semVal (kcell (c, k)) 0) ∗ bigSep Finset.univ fun k : Fin 26 => roundState ER (Rd (xs m)) (kcell (c, k)) 0)
      ⊢ (|={Set.univ}=> bigSep Finset.univ fun k => iprop(∃ κ : ℕ, cellInv ER (Rd (xs m)) κ (kcell (c, k))) : sProp 𝕄) from by
        rw [← bigSep_sep']
        exact (bigSep_mono fun k _ => (Rounds.body_intro ER (Rd (xs m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What holds of each device with a persistent fact holds of all with it. -/
theorem with_records {R : sProp 𝕄} [BI.Persistent R] {Φ Ψ : Dev nD → sProp 𝕄} (h : ∀ i, iprop(R ∗ Φ i) ⊢ Ψ i) :
    iprop(R ∗ bigSep Finset.univ Φ) ⊢ bigSep Finset.univ Ψ :=
  (sep_mono_left (BI.bigSep_of_persistent Finset.univ R)).trans (by rw [← bigSep_sep']; exact bigSep_mono fun i _ => h i)

/-- Each device's tokens, kept by the owner of the cell, go to the device that pays. -/
theorem regroup :
    (bigSep Finset.univ fun c : Dev nD => iprop((bigSep Finset.univ fun k => iprop(∃ κ : ℕ, cellInv ER (Rd (xs m)) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  simp only [bigSep_sep']
  rw [← bigSep_univ_prod (fun ck : Dev nD × Fin 26 => iprop(∃ κ : ℕ, cellInv ER (Rd (xs m)) κ (kcell ck))),
    ← bigSep_univ_prod (fun ck : Dev nD × Fin 26 => (reached ER (kcell ck) 0 : sProp 𝕄))]
  iintro ⟨HI, ⟨Hat, HR⟩, Htok⟩
  ihave HK := (BI.bigSep_exists_pi Finset.univ (fun (ck : Dev nD × Fin 26) (κ : ℕ) => (cellInv ER (Rd (xs m)) κ (kcell ck) : sProp 𝕄))) $$ HI
  icases HK with ⟨%K, HI⟩
  ihave Htk := (toks_around (F := F)) $$ Htok
  iapply (with_records (R := records (xs m) K) (Φ := mine) fun c => by
    unfold G'
    iintro ⟨HR, HM⟩
    isplitl [HR]; · iexists K; iexact HR
    iexact HM)
  isplitl [HI HR]
  · unfold records; isplitl [HI] <;> iassumption
  · unfold mine; rw [bigSep_sep']
    isplitl [Hat] <;> iassumption

/-- All devices together: from semaphores and ghost state to records and rights. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## Side conditions of the launch -/

/-- What a device is given at the launch makes the body's starting rights. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨Hb, He, Hr⟩
  unfold G' mine payToks
  rw [cells_by_kind c (fun g => (atPos ER g 0 ∅ 0 : sProp 𝕄))]
  icases HG with ⟨HR, ⟨HAb, HAe, HAs, HAr⟩, HT, HE, HC⟩
  imodintro
  unfold start startG rcv0 snd0
  isplitl
  · isplitl [HR]; · iexact HR
    isplitl [Hlev]; · iexact Hlev
    isplitl [HT]; · iexact HT
    isplitl [HE]; · iexact HE
    isplitl [HC]; · iexact HC
    isplitl [HAs]; · iexact HAs
    isplitl [HAr Hr]
    · rw [bigSep_sep']; isplitl [HAr] <;> iassumption
    isplitl [HAb]; · iexact HAb
    isplitl [Hb]; · iexact Hb
    isplitl [HAe]; · iexact HAe
    iexact He
  · iempintro

/-- With its scratch buffer, that is what it holds at the first grid point. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; iexact Hr

/-- What it holds at the end gives back every semaphore at zero and the scratch buffer. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl, scopedRest0_eq]
  unfold Φ₁ endG snd2 rcv1
  iintro ⟨HG, Hr⟩
  ihave HG := (Entails.of_eq ((cells_by_kind c (fun g => (semVal g 0 : sProp 𝕄))).symm.trans (all_sems c))) $$ HG
  icases HG with ⟨Hu, Ho⟩
  isplitl [Hu]; · iexact Hu
  isplitl [Ho]; · iexact Ho
  iexists (scr (xs m) c : Buf (Elt F) ((c : Thread nD τ).loc cc0_scratch0)); iexact Hr

/-- The pipeline's own waits are below everything that the device owes. -/
theorem waits (c : Dev nD) : (levAts L lv : sProp 𝕄) ⊢ Pipeline.cellsWaits cfgs (dats m) () 0 c :=
  Pipeline.cellsWaits_intro cfgs (dats m) () 0 c fun w s t => by
    have h0 : ∀ (w : Fin 5) (s : Fin (spec0 w).nbuf), lvK (kd (SemLoc.dma ((spec0 w).sem s))) = 0 := by
      intro w s; fin_cases w <;> fin_cases s <;> rfl
    rcases t with ⟨_ | _, ht⟩
    · exact mayWait c _ 24 le_rfl fun t _ _ => by
        refine lt_of_eq_of_lt (h0 w s) ?_
        (repeat' split) <;> decide
    · exact mayWait c _ 0 (Nat.zero_le _) fun t h1 h2 => absurd h2 (by omega)

/-! ## The run -/

/-- What an array holds at the end. -/
def atEnd (c : Dev nD) (w : Fin cfg0.W) : Buf (Elt F) ((cfg0.win w).arr.view.loc (c : Thread nD τ)) := (dats m 0 c).arrAt w cfg0.N

/-- The mesh runs, and ends with each result array holding what its device stored and every counter at zero. -/
theorem run_windows : θ_run defs (onTc (τ := τ) (main (F := F))) (s₀ m ρ)
    (fun r => (∀ c : Dev nD, ∀ w : Fin cfg0.W, r.2.mem ((cfg0.win w).arr.view.loc (c : Thread nD τ)) = atEnd m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => block_pos0 w) (harr := arr_whole0) (hstage := stage_whole0)
    (hshare := fun c w => by unfold Dat.share; split <;> rfl)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Talk

end
-- ==== Proof.Run.lean ====
/-
# What each device holds when the mesh has run
-/
module

public import proofs.«01_k».proof.Proof.Launch

@[expose] public section

set_option maxRecDepth 16384

noncomputable section

namespace Cert.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Reading the one block of a window over a whole array reads the array. -/
theorem xs_eq (c : Dev nD) : xs m c = m ((c : Thread nD τ).loc main_arg0) := by
  have hz : (fun a => win0_0.index (0 : Fin 1) a * main_arg0.ty.shape.size a) = fun _ => 0 := funext fun a => by fin_cases a <;> decide
  exact Memref.read_access_unit_zero (Elt F) main_arg0 hz (fun a => by fin_cases a <;> decide) _
/-- The one block of `t_emb` is the argument. -/
theorem ts_eq (c : Dev nD) : ts m c = m ((c : Thread nD τ).loc main_arg1) := by
  have hz : (fun a => win0_1.index (0 : Fin 1) a * main_arg1.ty.shape.size a) = fun _ => 0 := funext fun a => by fin_cases a <;> decide
  exact Memref.read_access_unit_zero (Elt F) main_arg1 hz (fun a => by fin_cases a <;> decide) _
/-- The one block of a device's `W_scale` is its argument. -/
theorem wss_eq (c : Dev nD) : wss m c = m ((c : Thread nD τ).loc main_arg2) := by
  have hz : (fun a => win0_2.index (0 : Fin 1) a * main_arg2.ty.shape.size a) = fun _ => 0 := funext fun a => by fin_cases a <;> decide
  exact Memref.read_access_unit_zero (Elt F) main_arg2 hz (fun a => by fin_cases a <;> decide) _
/-- The one block of a device's `W_shift` is its argument. -/
theorem whs_eq (c : Dev nD) : whs m c = m ((c : Thread nD τ).loc main_arg3) := by
  have hz : (fun a => win0_3.index (0 : Fin 1) a * main_arg3.ty.shape.size a) = fun _ => 0 := funext fun a => by fin_cases a <;> decide
  exact Memref.read_access_unit_zero (Elt F) main_arg3 hz (fun a => by fin_cases a <;> decide) _

/-- The result array ends at the block the body stored. -/
theorem atEnd_out (c : Dev nD) : atEnd m c (4 : Fin 5) = outAt m c := by
  have hz : (fun a => win0_4.index (0 : Fin 1) a * main_v1.ty.shape.size a) = fun _ => 0 := funext fun a => by fin_cases a <;> decide
  have hr : ∀ f : Buf (Elt F) ((c : Thread nD τ).loc main_v1), (win0_4.blk (0 : Fin 1)).view.read (Elt F) f = f := fun f =>
    Memref.read_access_unit_zero (Elt F) main_v1 hz (fun a => by fin_cases a <;> decide) f
  have h := (dats m 0 c).read_blk_arrAt (4 : Fin 5) (outAt m c) (fun t _ => by
    rcases fin_N0 t with rfl
    refine Eq.trans ?_ (hr _).symm
    unfold Pipeline.Dat.flushed
    rfl) t0_0 (flush0_4 _)
  exact ((hr _).symm.trans h).trans (hr _)

/-- From any memory, every run of the whole mesh ends with each device's result array at the block it computes, its
    arguments as they were and every counter at zero. -/
theorem run_main : θ_run defs (onTc (τ := τ) (main (F := F))) ⟨m, fun _ => 0, ρ⟩ (fun r => (∀ c : Dev nD,
      r.2.mem ((c : Thread nD τ).loc main_v1) = outOf (fun c => m ((c : Thread nD τ).loc main_arg0)) c (m ((c : Thread nD τ).loc main_arg1))
          (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) := by
  refine (θ_run defs _ _).mono (fun r h => ⟨fun c => ⟨?_, ?_, ?_, ?_, ?_⟩, h.2⟩) (run_windows m ρ)
  · refine (h.1 c (4 : Fin 5)).trans ((atEnd_out m c).trans ?_)
    unfold outAt
    rw [ts_eq, wss_eq, whs_eq, show xs m = _ from funext (xs_eq m)]
  · exact (h.1 c (0 : Fin 5)).trans ((dats m 0 c).arrAt_in (0 : Fin 5) rfl _)
  · exact (h.1 c (1 : Fin 5)).trans ((dats m 0 c).arrAt_in (1 : Fin 5) rfl _)
  · exact (h.1 c (2 : Fin 5)).trans ((dats m 0 c).arrAt_in (2 : Fin 5) rfl _)
  · exact (h.1 c (3 : Fin 5)).trans ((dats m 0 c).arrAt_in (3 : Fin 5) rfl _)

end Cert.Talk

end
-- ==== Proof.Ref.lean ====
/-
# The reference's result, and its run
-/
module

public import proofs.«01_k».proof.Proof.Gen.ReferenceIdeal.Run
public import Idealize.ShloMosaic.Lib.Pointwise
public import Idealize.ShloMosaic.Init

@[expose] public section

set_option maxRecDepth 16384

noncomputable section

namespace Cert.Ref

open Cert.ReferenceIdeal Cert.ReferenceIdeal.Gen Idealize.ShloMosaic Idealize.ShloMosaic.TcCoe Idealize.SL.Sem

variable {F : FTy → Type} [FloatOps F]

/-- The mean over the last axis, as the reference computes it. -/
def refMean (x : FVec F S4x1024x4096 .bf16) : FVec F S4x1024x1 .f32 :=
  Host.divf (broadcastInDim S4x1024x1 ![0, 1] bcast_S4x1024_S4x1024x1_0_1 (Host.reduceAdd (extf .f32 x bitsLt_bf16_f32) (constant S_ .f32 0x00000000#32) reducesTo_S4x1024x4096_S4x1024_d2 h_S_)) (broadcastInDim S4x1024x1 ![] bcast_S_S4x1024x1 (constant S_ .f32 0x45800000#32))

/-- The variance over the last axis, as the reference computes it. -/
def refVar (x : FVec F S4x1024x4096 .bf16) : FVec F S4x1024x1 .f32 :=
  select (broadcastInDim S4x1024x1 ![] bcast_S_S4x1024x1 (cmpf .ogt (subf (constant S_ .f32 0x45800000#32) (sitofp .f32 (constantI S_ 32 0#32)) : FVec F S_ .f32) (constant S_ .f32 0x00000000#32))) (Host.divf (broadcastInDim S4x1024x1 ![0, 1] bcast_S4x1024_S4x1024x1_0_1 (Host.reduceAdd (mulf (subf (extf .f32 x bitsLt_bf16_f32) (broadcastInDim S4x1024x4096 ![0, 1, 2] bcast_S4x1024x1_S4x1024x4096_0_1_2 (refMean x))) (subf (extf .f32 x bitsLt_bf16_f32) (broadcastInDim S4x1024x4096 ![0, 1, 2] bcast_S4x1024x1_S4x1024x4096_0_1_2 (refMean x)))) (constant S_ .f32 0x00000000#32) reducesTo_S4x1024x4096_S4x1024_d2 h_S_)) (broadcastInDim S4x1024x1 ![] bcast_S_S4x1024x1 (subf (constant S_ .f32 0x45800000#32) (sitofp .f32 (constantI S_ 32 0#32))))) (broadcastInDim S4x1024x1 ![] bcast_S_S4x1024x1 (id (constant S_ .f32 0x7FC00000#32)))

/-- The reference's result. -/
def refOut (x : FVec F S4x1024x4096 .bf16) (t : FVec F S4x128 .bf16) (ws wh : FVec F S128x4096 .bf16) : FVec F S4x1024x4096 .bf16 :=
  truncf .bf16 (addf (mulf (Host.divf (subf (extf .f32 x bitsLt_bf16_f32) (broadcastInDim S4x1024x4096 ![0, 1, 2] bcast_S4x1024x1_S4x1024x4096_0_1_2 (refMean x))) (broadcastInDim S4x1024x4096 ![0, 1, 2] bcast_S4x1024x1_S4x1024x4096_0_1_2 (Host.sqrt (addf (refVar x) (broadcastInDim S4x1024x1 ![] bcast_S_S4x1024x1 (constant S_ .f32 0x3727C5AC#32)))))) (broadcastInDim S4x1024x4096 ![0, 1, 2] bcast_S4x1x4096_S4x1024x4096_0_1_2 (addf (broadcastInDim S4x1x4096 ![] bcast_S_S4x1x4096 (constant S_ .f32 0x3F800000#32)) (broadcastInDim S4x1x4096 ![0, 2] bcast_S4x4096_S4x1x4096_0_2 (Host.dotGeneral dot_S4x128_S128x4096_S4x4096_1_0_0_1_n_n none (extf .f32 t bitsLt_bf16_f32) (extf .f32 ws bitsLt_bf16_f32)))))) (broadcastInDim S4x1024x4096 ![0, 1, 2] bcast_S4x1x4096_S4x1024x4096_0_1_2 (broadcastInDim S4x1x4096 ![0, 2] bcast_S4x4096_S4x1x4096_0_2 (Host.dotGeneral dot_S4x128_S128x4096_S4x4096_1_0_0_1_n_n none (extf .f32 t bitsLt_bf16_f32) (extf .f32 wh bitsLt_bf16_f32))))) bitsLt_bf16_f32

/-- The reference's run: its result as above, its arguments as they were, every counter at zero. -/
theorem run_ref (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v26) = refOut (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨h, Idealize.ShloMosaic.sem_eq_zero_of_no_sems (by decide) r.2⟩) (Cert.ReferenceIdeal.Value.run m ρ)

/-! ## The reference at an index -/

/-- The mean at a row: the row's sum over 4096. -/
theorem refMean_at (x : FVec Ideal S4x1024x4096 .bf16) (b : Fin 4) (s : Fin 1024) :
    refMean x (ix3 b s (0 : Fin 1)) = Ideal.div (∑ j : Fin 4096, x (ix3 b s j)) (Ideal.ofBits .f32 0x45800000#32) := by
  pointwise [refMean]

/-- The result at an index, over the row's mean and variance. -/
theorem refOut_at (x : FVec Ideal S4x1024x4096 .bf16) (t : FVec Ideal S4x128 .bf16) (ws wh : FVec Ideal S128x4096 .bf16) (b : Fin 4) (s : Fin 1024) (l : Fin 4096) :
    refOut x t ws wh (ix3 b s l)
      = Ideal.div (x (ix3 b s l) - refMean x (ix3 b s 0)) (Ideal.sqrt (refVar x (ix3 b s 0) + Ideal.ofBits .f32 0x3727C5AC#32))
          * (1 + ∑ k : Fin 128, t (ix2 b k) * ws (ix2 k l)) + ∑ k : Fin 128, t (ix2 b k) * wh (ix2 k l) := by
  pointwise [refOut]

/-- The variance at a row: the mean of the squared distances to the mean. The reference's other branch is taken only where
    the number of summands is not positive. -/
theorem refVar_at (x : FVec Ideal S4x1024x4096 .bf16) (b : Fin 4) (s : Fin 1024) (hN : (0 : EReal) < Ideal.ofBits .f32 0x45800000#32) :
    refVar x (ix3 b s (0 : Fin 1))
      = Ideal.div (∑ j : Fin 4096, (x (ix3 b s j) - refMean x (ix3 b s 0)) * (x (ix3 b s j) - refMean x (ix3 b s 0))) (Ideal.ofBits .f32 0x45800000#32) := by
  have h0 : (FloatOps.sitofp (F := Ideal) .f32 (0#32) : EReal) = 0 := by
    show (((0#32 : BitVec 32).toInt : ℝ) : EReal) = 0
    simp
  pointwise [refVar]
  rw [h0, sub_zero, if_pos hN]

end Cert.Ref

end
-- ==== Proof.Algebra.lean ====
/-
# A row, normalised in two ways

The kernel takes a row's variance as the mean of the squares less the square of the mean and multiplies by the reciprocal
root, `x · i - mean · i`; the reference takes the mean of the squared distances and divides by the root. On a row of reals
the two are one.
-/
module

public import Idealize.ShloMosaic.Lib.Pointwise

@[expose] public section

noncomputable section

namespace Cert.Algebra

open Idealize.ShloMosaic

/-- A sum of reals is the same sum among the extended reals. -/
theorem coe_sum {ι : Type} (s : Finset ι) (f : ι → ℝ) : ((∑ i ∈ s, f i : ℝ) : EReal) = ∑ i ∈ s, (f i : EReal) :=
  map_sum (⟨⟨fun r : ℝ => (r : EReal), EReal.coe_zero⟩, EReal.coe_add⟩ : ℝ →+ EReal) f s

variable {n : ℕ} (r : Fin n → ℝ) {N : ℝ}

/-- The mean of the squares less the square of the mean is the mean of the squared distances to the mean. -/
theorem var_eq (hN : N ≠ 0) (hn : (n : ℝ) = N) :
    (∑ j, r j * r j) * (1 / N) - (∑ j, r j) * (1 / N) * ((∑ j, r j) * (1 / N))
      = (∑ j, (r j - (∑ j, r j) * (1 / N)) * (r j - (∑ j, r j) * (1 / N))) * (1 / N) := by
  obtain ⟨S, hS⟩ : ∃ S, ∑ j, r j = S := ⟨_, rfl⟩
  rw [hS]
  have h : (∑ j, (r j - S * (1 / N)) * (r j - S * (1 / N))) = (∑ j, r j * r j) - 2 * (S * (1 / N)) * S + N * (S * (1 / N) * (S * (1 / N))) := by
    have e : ∀ j, (r j - S * (1 / N)) * (r j - S * (1 / N)) = r j * r j - 2 * (S * (1 / N)) * r j + S * (1 / N) * (S * (1 / N)) := fun j => by ring
    simp only [e]
    rw [Finset.sum_add_distrib, Finset.sum_sub_distrib, ← Finset.mul_sum, hS, Finset.sum_const, Finset.card_univ, Fintype.card_fin, nsmul_eq_mul, hn]
  rw [h]
  field_simp
  ring

/-- The mean of the squared distances is not negative. -/
theorem var_nonneg (hN : 0 < N) (μ : ℝ) : 0 ≤ (∑ j, (r j - μ) * (r j - μ)) * (1 / N) :=
  mul_nonneg (Finset.sum_nonneg fun j _ => mul_self_nonneg _) (by positivity)

/-- The normalised element, the kernel's way and the reference's way. -/
theorem norm_eq (hN : 0 < N) (hn : (n : ℝ) = N) {e : ℝ} (he : 0 < e) (a : ℝ) :
    (a : EReal) * Ideal.rsqrt (Ideal.div (∑ j, (r j : EReal) * (r j : EReal)) (N : EReal)
          - Ideal.div (∑ j, (r j : EReal)) (N : EReal) * Ideal.div (∑ j, (r j : EReal)) (N : EReal) + (e : EReal))
        - Ideal.div (∑ j, (r j : EReal)) (N : EReal) * Ideal.rsqrt (Ideal.div (∑ j, (r j : EReal) * (r j : EReal)) (N : EReal)
          - Ideal.div (∑ j, (r j : EReal)) (N : EReal) * Ideal.div (∑ j, (r j : EReal)) (N : EReal) + (e : EReal))
      = Ideal.div ((a : EReal) - Ideal.div (∑ j, (r j : EReal)) (N : EReal))
          (Ideal.sqrt (Ideal.div (∑ j, ((r j : EReal) - Ideal.div (∑ j, (r j : EReal)) (N : EReal)) * ((r j : EReal) - Ideal.div (∑ j, (r j : EReal)) (N : EReal))) (N : EReal)
            + (e : EReal))) := by
  have hN0 : N ≠ 0 := hN.ne'
  simp only [Ideal.div_coe hN0]
  simp only [← EReal.coe_mul, ← coe_sum, ← EReal.coe_sub, ← EReal.coe_add]
  rw [var_eq r hN0 hn]
  have hv := var_nonneg r hN ((∑ j, r j) * (1 / N))
  generalize (∑ j, (r j - (∑ j, r j) * (1 / N)) * (r j - (∑ j, r j) * (1 / N))) * (1 / N) = v at hv ⊢
  have hp : 0 < v + e := by linarith
  have hs : Real.sqrt (v + e) ≠ 0 := (Real.sqrt_pos.mpr hp).ne'
  rw [Ideal.rsqrt_coe, Ideal.sqrt_coe, if_neg (not_lt.mpr hp.le), if_neg hp.ne', if_neg (not_lt.mpr hp.le), Ideal.div_coe hs,
    ← EReal.coe_mul, ← EReal.coe_mul, ← EReal.coe_mul, ← EReal.coe_sub]
  congr 1
  rw [one_div]; ring

/-- A sum over blocks of lanes is the sum over all lanes. -/
theorem sum_blocks (g : Fin 4096 → EReal) : ∑ d : Fin 16, ∑ k : Fin 256, g ⟨256 * d.val + k.val, by omega⟩ = ∑ j, g j := by
  rw [← (finProdFinEquiv (m := 16) (n := 256)).sum_comp (fun j => g j), Fintype.sum_prod_type]
  refine Finset.sum_congr rfl fun d _ => Finset.sum_congr rfl fun k _ => congrArg g (Fin.ext ?_)
  show 256 * d.val + k.val = k.val + 256 * d.val
  omega

end Cert.Algebra

end
-- ==== Proof.Consts.lean ====
/-
# The constants the two programs spell, as extended reals
-/
module

public import Idealize.ShloMosaic.PureOps.Ideal

@[expose] public section

noncomputable section

namespace Cert.Consts

open Idealize.ShloMosaic

/-- The number of lanes. -/
theorem ofBits_4096 : Ideal.ofBits .f32 0x45800000#32 = ((4096 : ℝ) : EReal) := by
  simp [Ideal.ofBits, Ideal.ieee, -EReal.coe_mul]; norm_num

/-- The term under the root is a positive real. -/
theorem ofBits_eps : Ideal.ofBits .f32 0x3727C5AC#32 = ((10995116 / 1099511627776 : ℝ) : EReal) := by
  simp [Ideal.ofBits, Ideal.ieee, -EReal.coe_mul]; norm_num

/-- The lower bound that the precondition names. -/
theorem ofBits_bot : Ideal.ofBits .bf16 0xFF80#16 = ⊥ := by
  simp [Ideal.ofBits, Ideal.ieee]

/-- The upper bound that the precondition names. -/
theorem ofBits_top : Ideal.ofBits .bf16 0x7F80#16 = ⊤ := by
  simp [Ideal.ofBits, Ideal.ieee]

end Cert.Consts

end
-- ==== Proof.Value.lean ====
/-
# Each device's result is its block of the reference's result
-/
module

public import proofs.«01_k».proof.Defs
public import proofs.«01_k».proof.Proof.At
public import proofs.«01_k».proof.Proof.Gen.Kernel
public import proofs.«01_k».proof.Proof.Run
public import proofs.«01_k».proof.Proof.Ref
public import proofs.«01_k».proof.Proof.Algebra
public import proofs.«01_k».proof.Proof.Consts
public import Idealize.ShloMosaic.Lib.LayoutAt

@[expose] public section

set_option maxRecDepth 16384

noncomputable section

namespace Cert.Value

open Idealize.ShloMosaic Idealize.ShloMosaic.TcCoe
open Idealize.SL Idealize.SL.Sem

/-- The shape of a device's block of `x`. -/
abbrev Blk3 : Shape := ⟨3, ![4, 1024, 256]⟩
/-- The shape of the whole `x`. -/
abbrev All3 : Shape := ⟨3, ![4, 1024, 4096]⟩
/-- The shape of a device's block of a weight. -/
abbrev Blk2 : Shape := ⟨2, ![128, 256]⟩
/-- The shape of a whole weight. -/
abbrev All2 : Shape := ⟨2, ![128, 4096]⟩

/-- Lane `l` of device `c`'s block. -/
def lane (c : Fin 16) (l : Fin 256) : Fin 4096 := ⟨256 * c.val + l.val, by omega⟩

/-- A block of the rank-3 array, at an index. -/
theorem block3 (c : Fin 16) (x : All3.Idx → EReal) (b : Fin 4) (s : Fin 1024) (l : Fin 256) :
    Layout.block Blk3 All3 2 16 c x (by decide) (ix3 b s l) = x (ix3 b s (lane c l)) := by
  refine congrArg x (Layout.idx_ext fun a => ?_)
  match a with
  | ⟨0, _⟩ => exact Layout.Tiles.idx_val_of_ne _ _ _ _ (show (0 : ℕ) ≠ 2 by decide)
  | ⟨1, _⟩ => exact Layout.Tiles.idx_val_of_ne _ _ _ _ (show (1 : ℕ) ≠ 2 by decide)
  | ⟨2, _⟩ => exact (Layout.Tiles.idx_val_self _ _ _ _ rfl).trans (by show c.val * 256 + l.val = 256 * c.val + l.val; omega)

/-- A block of a weight matrix, at an index. -/
theorem block2 (c : Fin 16) (w : All2.Idx → EReal) (k : Fin 128) (l : Fin 256) :
    Layout.block Blk2 All2 1 16 c w (by decide) (ix2 k l) = w (ix2 k (lane c l)) := by
  refine congrArg w (Layout.idx_ext fun a => ?_)
  match a with
  | ⟨0, _⟩ => exact Layout.Tiles.idx_val_of_ne _ _ _ _ (show (0 : ℕ) ≠ 1 by decide)
  | ⟨1, _⟩ => exact (Layout.Tiles.idx_val_self _ _ _ _ rfl).trans (by show c.val * 256 + l.val = 256 * c.val + l.val; omega)

/-- Every lane is a lane of some device's block. -/
theorem lane_surj (j : Fin 4096) : ∃ c l, lane c l = j :=
  ⟨⟨j.val / 256, by omega⟩, ⟨j.val % 256, by omega⟩, Fin.ext (by show 256 * (j.val / 256) + j.val % 256 = j.val; omega)⟩

/-- On an array of reals, a device's result is its block of the reference's result. -/
theorem out_eq (x : All3.Idx → EReal) (hx : ∀ i, x i ≠ ⊤ ∧ x i ≠ ⊥) (t : FVec Ideal ⟨2, ![4, 128]⟩ .bf16) (ws wh : All2.Idx → EReal)
    (c : Dev Cert.KernelIdeal.nD) :
    Cert.Talk.outOf (F := Ideal) (fun d => Layout.block Blk3 All3 2 16 d x (by decide)) c t (Layout.block Blk2 All2 1 16 c ws (by decide)) (Layout.block Blk2 All2 1 16 c wh (by decide))
      = Layout.block Blk3 All3 2 16 c (Cert.Ref.refOut (F := Ideal) x t ws wh) (by decide) := by
  funext i
  obtain ⟨b, s, l, rfl⟩ : ∃ (b : Fin 4) (s : Fin 1024) (l : Fin 256), i = ix3 b s l := ⟨i 0, i 1, i 2, eq_ix3 i⟩
  have hr : ∀ j : Fin 4096, x (ix3 b s j) = ((x (ix3 b s j)).toReal : EReal) := fun j => (EReal.coe_toReal (hx _).1 (hx _).2).symm
  obtain ⟨r, hr⟩ : ∃ r : Fin 4096 → ℝ, ∀ j, x (ix3 b s j) = (r j : EReal) := ⟨_, hr⟩
  have hS : Cert.Talk.rowSum (fun d => Layout.block Blk3 All3 2 16 d x (by decide)) b s = ∑ j : Fin 4096, (r j : EReal) :=
    Eq.trans (Finset.sum_congr rfl fun d _ => Finset.sum_congr rfl fun k _ => (block3 d x b s k).trans (hr _)) (Cert.Algebra.sum_blocks fun j => (r j : EReal))
  have hQ : Cert.Talk.rowSq (fun d => Layout.block Blk3 All3 2 16 d x (by decide)) b s = ∑ j : Fin 4096, (r j : EReal) * (r j : EReal) :=
    Eq.trans (Finset.sum_congr rfl fun d _ => Finset.sum_congr rfl fun k _ => congrArg₂ (· * ·) ((block3 d x b s k).trans (hr _)) ((block3 d x b s k).trans (hr _)))
      (Cert.Algebra.sum_blocks fun j => (r j : EReal) * (r j : EReal))
  have hN : (0 : EReal) < Ideal.ofBits .f32 0x45800000#32 := by
    rw [Cert.Consts.ofBits_4096]; exact_mod_cast (by norm_num : (0 : ℝ) < 4096)
  rw [Cert.Talk.out_at, block3 c x, block3 c (Cert.Ref.refOut x t ws wh), Cert.Ref.refOut_at, Cert.Ref.refVar_at x b s hN, Cert.Ref.refMean_at, hS, hQ, Cert.Consts.ofBits_4096, Cert.Consts.ofBits_eps]
  simp only [block3, block2, hr]
  rw [Cert.Algebra.norm_eq r (by norm_num) (by norm_num) (by norm_num) (r (lane c l))]

/-! ## The precondition -/

/-- The facts that the precondition's program takes, at the kernel's side. -/
instance factsPre : Cert.Pre_x_finite_KernelIdeal.Facts := ⟨by decide⟩
/-- The same at the reference's side. -/
instance factsPreRef : Cert.Pre_x_finite_ReferenceIdeal.Facts := ⟨by decide⟩

/-- Where the precondition holds of an element, the element is a real. -/
theorem finite_of_pre (x : FVec Ideal Blk3 .bf16) (t : FVec Ideal ⟨2, ![4, 128]⟩ .bf16) (ws wh : FVec Ideal Blk2 .bf16)
    (h : Cert.Pre_x_finite_KernelIdeal.fn (F := Ideal) x t ws wh = fun _ => 1#1) (i : Blk3.Idx) : x i ≠ ⊤ ∧ x i ≠ ⊥ := by
  have hi := congrFun h i
  pointwise [Cert.Pre_x_finite_KernelIdeal.fn] at hi
  rw [Cert.Consts.ofBits_bot, Cert.Consts.ofBits_top] at hi
  by_cases h1 : (⊥ : EReal) < x i
  · by_cases h2 : x i < (⊤ : EReal)
    · exact ⟨h2.ne, h1.ne'⟩
    · rw [decide_eq_false h2, decide_eq_true h1] at hi; exact absurd hi (by decide)
  · rw [decide_eq_false h1] at hi
    exact absurd hi (by generalize decide (x i < (⊤ : EReal)) = q; revert q; decide)

/-! ## The claim -/

/-- From memories that agree, a device's result is its block of the reference's result. -/
theorem algebraic : Cert.algebraic_KernelIdeal_ReferenceIdeal_pre_x_finite_KernelIdeal := by
  intro m g m' g' hpre hagree
  obtain ⟨x, hx⟩ : ∃ x : All3.Idx → EReal, m' (((0 : Dev Cert.ReferenceIdeal.nD).tc : Thread Cert.ReferenceIdeal.nD Cert.ReferenceIdeal.τ).loc Cert.ReferenceIdeal.main_arg0) = x := ⟨_, rfl⟩
  have hfin : ∀ i, x i ≠ ⊤ ∧ x i ≠ ⊥ := fun i => by
    obtain ⟨b, s, j, rfl⟩ : ∃ (b : Fin 4) (s : Fin 1024) (j : Fin 4096), i = ix3 b s j := ⟨i 0, i 1, i 2, eq_ix3 i⟩
    obtain ⟨c, l, rfl⟩ := lane_surj j
    have h := finite_of_pre _ _ _ _ (hpre c) (ix3 b s l)
    rw [(hagree c).1, hx, block3] at h
    exact h
  refine ⟨Cert.Ref.refOut (F := Ideal) x (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)), ?_, ?_⟩
  · refine (θ_run (Cert.KernelIdeal.defs (F := Ideal)) _ _).mono (fun r h c => ⟨(h.1 c).1.trans ?_, (h.1 c).2⟩) (Cert.Talk.run_main (F := Ideal) m g)
    have e : (fun d : Dev Cert.KernelIdeal.nD => m ((d.tc : Thread Cert.KernelIdeal.nD Cert.KernelIdeal.τ).loc Cert.KernelIdeal.main_arg0))
        = fun d => Layout.block Blk3 All3 2 16 d x (by decide) := funext fun d => by rw [← hx]; exact (hagree d).1
    exact (congrFun (congrFun (congrFun (congr (congrArg (Cert.Talk.outOf (F := Ideal)) e) (Eq.refl c)) _) _) _).trans
      (by rw [(hagree c).2.1, (hagree c).2.2.1, (hagree c).2.2.2]; exact out_eq x hfin _ _ _ c)
  · exact (θ_run (Cert.ReferenceIdeal.defs (F := Ideal)) _ _).mono (fun r h => ⟨(h.1 0).1.trans (by rw [hx]), (h.1 0).2⟩) (Cert.Ref.run_ref (F := Ideal) m' g')

/-! ## The frames -/

/-- The two printings of the kernel give one table of bodies. -/
theorem defs₀_eq : Cert.Kernel.defs₀ (F := Bits) = Cert.KernelIdeal.defs₀ (F := Bits) := by
  unfold Cert.Kernel.defs₀ Cert.KernelIdeal.defs₀
  refine congrArg Defs.onTc ?_
  funext l a
  revert a
  match l with
  | 0 => exact fun _ => rfl

/-- And one table with the pipeline's. -/
theorem defs_eq : Cert.Kernel.defs (F := Bits) = Cert.KernelIdeal.defs (F := Bits) :=
  congrArg (Pipeline.defs (Cert.KernelIdeal.pcfgs (F := Bits))) defs₀_eq

/-- The kernel as printed runs, leaves its arguments as they were and ends with every counter at zero. -/
theorem frame_kernel : Cert.quiescent_Kernel := fun m ρ _ => by
  have h := (θ_run (Cert.KernelIdeal.defs (F := Bits)) _ _).mono (fun (r : _ × _) (h : (∀ c, _ ∧ _) ∧ _) => And.intro (fun c => (h.1 c).2) h.2) (Cert.Talk.run_main (F := Bits) m ρ)
  rw [defs_eq]
  exact h

/-- So does the same program over the extended reals, from any memory. -/
theorem frame_ideal : Cert.quiescent_KernelIdeal := fun m ρ _ =>
  (θ_run (Cert.KernelIdeal.defs (F := Ideal)) _ _).mono (fun _ h => ⟨fun c => (h.1 c).2, h.2⟩) (Cert.Talk.run_main (F := Ideal) m ρ)

/-- And the reference. -/
theorem frame_ref : Cert.quiescent_ReferenceIdeal := fun m ρ _ =>
  (θ_run (Cert.ReferenceIdeal.defs (F := Ideal)) _ _).mono (fun _ h => ⟨fun c => (h.1 c).2, h.2⟩) (Cert.Ref.run_ref (F := Ideal) m ρ)

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The five claims. -/
theorem claim : Cert.Claim :=
  ⟨Cert.Kernel.Gen.facts, Cert.KernelIdeal.Gen.facts, Cert.ReferenceIdeal.Gen.facts, Cert.Value.factsPre, Cert.Value.factsPreRef,
    Cert.Value.frame_kernel, Cert.Value.frame_ideal, fun m g _ => Cert.Value.frame_ideal m g trivial,
    Cert.Value.frame_ref, fun m g _ => Cert.Value.frame_ref m g trivial, trivial, Cert.Value.algebraic⟩

end Cert.Proof

end
